-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_inputs_in_range [hPre_inputs_in_range : Cert.Pre_inputs_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_inputs_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_inputs_in_range [hPre_inputs_in_range : Cert.Pre_inputs_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_inputs_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_inputs_in_range [hKernelIdeal : Cert.KernelIdeal.Facts] [hPre_inputs_in_range : Cert.Pre_inputs_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_inputs_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_inputs_in_range [hReferenceIdeal : Cert.ReferenceIdeal.Facts] [hPre_inputs_in_range : Cert.Pre_inputs_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_inputs_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_inputs_in_range [hKernelIdeal : Cert.KernelIdeal.Facts] [hReferenceIdeal : Cert.ReferenceIdeal.Facts] [hPre_inputs_in_range : Cert.Pre_inputs_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_inputs_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v527) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_inputs_in_range : Cert.Pre_inputs_in_range.Facts),
    quiescent_Kernel (hKernel := hKernel)
    ∧ quiescent_KernelIdeal (hKernelIdeal := hKernelIdeal)
    ∧ quiescent_KernelIdeal_pre_inputs_in_range (hKernelIdeal := hKernelIdeal) (hPre_inputs_in_range := hPre_inputs_in_range)
    ∧ quiescent_ReferenceIdeal (hReferenceIdeal := hReferenceIdeal)
    ∧ quiescent_ReferenceIdeal_pre_inputs_in_range (hReferenceIdeal := hReferenceIdeal) (hPre_inputs_in_range := hPre_inputs_in_range)
    ∧ preserves_Kernel_KernelIdeal
    ∧ algebraic_KernelIdeal_ReferenceIdeal_pre_inputs_in_range (hKernelIdeal := hKernelIdeal) (hReferenceIdeal := hReferenceIdeal) (hPre_inputs_in_range := hPre_inputs_in_range)
-- ==== Pre_inputs_in_range.lean ====
abbrev S4x12x8x16x16 : Shape := ⟨5, ![4, 12, 8, 16, 16]⟩
abbrev S4x1x1024x1024 : Shape := ⟨4, ![4, 1, 1024, 1024]⟩
abbrev S_ : Shape := ⟨0, ![]⟩

class Facts : Prop where
  bcast_S_S4x12x8x16x16 : S_.BroadcastsInDim S4x12x8x16x16 (![] : Fin 0 → Fin S4x12x8x16x16.rank)
  reducesTo_S4x12x8x16x16_S_d0_1_2_3_4 : S4x12x8x16x16.ReducesTo [0, 1, 2, 3, 4] S_
  h_S_ : 0 < S_.numel
  bcast_S_S4x1x1024x1024 : S_.BroadcastsInDim S4x1x1024x1024 (![] : Fin 0 → Fin S4x1x1024x1024.rank)
  reducesTo_S4x1x1024x1024_S_d0_1_2_3 : S4x1x1024x1024.ReducesTo [0, 1, 2, 3] S_

variable [Facts]

def fn {F : FTy → Type} [FloatOps F] (main_arg0 : FVec F S4x12x8x16x16 .f32) (main_arg1 : FVec F S4x1x1024x1024 .f32) : IVec S_ 1 :=
  let main_v0 : FVec F S4x12x8x16x16 .f32 := Host.absf main_arg0
  let main_cst : FVec F S_ .f32 := constant S_ .f32 0x7F800000#32
  let main_v1 : FVec F S4x12x8x16x16 .f32 := broadcastInDim S4x12x8x16x16 ![] bcast_S_S4x12x8x16x16 main_cst
  let main_v2 : IVec S4x12x8x16x16 1 := cmpf .olt main_v0 main_v1
  let main_c : IVec S_ 1 := constantI S_ 1 1#1
  let main_v3 : IVec S_ 1 := (fun x v => Host.reduce IntOp.andi x v reducesTo_S4x12x8x16x16_S_d0_1_2_3_4 h_S_) main_v2 main_c
  let main_cst_0 : FVec F S_ .f32 := constant S_ .f32 0x40E00000#32
  let main_v4 : FVec F S4x1x1024x1024 .f32 := broadcastInDim S4x1x1024x1024 ![] bcast_S_S4x1x1024x1024 main_cst_0
  let main_v5 : FVec F S4x1x1024x1024 .f32 := mulf main_arg1 main_v4
  let main_cst_1 : FVec F S_ .f32 := constant S_ .f32 0xBF800000#32
  let main_v6 : FVec F S4x1x1024x1024 .f32 := broadcastInDim S4x1x1024x1024 ![] bcast_S_S4x1x1024x1024 main_cst_1
  let main_v7 : IVec S4x1x1024x1024 1 := cmpf .oge main_v5 main_v6
  let main_c_2 : IVec S_ 1 := constantI S_ 1 1#1
  let main_v8 : IVec S_ 1 := (fun x v => Host.reduce IntOp.andi x v reducesTo_S4x1x1024x1024_S_d0_1_2_3 h_S_) main_v7 main_c_2
  let main_v9 : IVec S_ 1 := andi main_v3 main_v8
  let main_cst_3 : FVec F S_ .f32 := constant S_ .f32 0x3F800000#32
  let main_v10 : FVec F S4x1x1024x1024 .f32 := broadcastInDim S4x1x1024x1024 ![] bcast_S_S4x1x1024x1024 main_cst_3
  let main_v11 : IVec S4x1x1024x1024 1 := cmpf .ole main_arg1 main_v10
  let main_c_4 : IVec S_ 1 := constantI S_ 1 1#1
  let main_v12 : IVec S_ 1 := (fun x v => Host.reduce IntOp.andi x v reducesTo_S4x1x1024x1024_S_d0_1_2_3 h_S_) main_v11 main_c_4
  let main_v13 : IVec S_ 1 := andi main_v9 main_v12
  main_v13
-- ==== Kernel.lean ====
abbrev S4x12x8x16x16 : Shape := ⟨5, ![4, 12, 8, 16, 16]⟩
abbrev S4x1x1024x1024 : Shape := ⟨4, ![4, 1, 1024, 1024]⟩
abbrev S1024 : Shape := ⟨1, ![1024]⟩
abbrev S_ : Shape := ⟨0, ![]⟩
abbrev S1024x1 : Shape := ⟨2, ![1024, 1]⟩
abbrev S1x16 : Shape := ⟨2, ![1, 16]⟩
abbrev S1024x16 : Shape := ⟨2, ![1024, 16]⟩
abbrev S16x1024 : Shape := ⟨2, ![16, 1024]⟩
abbrev S4x12x1024x1024 : Shape := ⟨4, ![4, 12, 1024, 1024]⟩
abbrev S1x12x8x16x16 : Shape := ⟨5, ![1, 12, 8, 16, 16]⟩
abbrev S1x1x128x1024 : Shape := ⟨4, ![1, 1, 128, 1024]⟩
abbrev S128x16 : Shape := ⟨2, ![128, 16]⟩
abbrev S1x12x128x1024 : Shape := ⟨4, ![1, 12, 128, 1024]⟩
abbrev S1x1x1x16x16 : Shape := ⟨5, ![1, 1, 1, 16, 16]⟩
abbrev S16x16 : Shape := ⟨2, ![16, 16]⟩
abbrev S1x1x128x256 : Shape := ⟨4, ![1, 1, 128, 256]⟩
abbrev S128x256 : Shape := ⟨2, ![128, 256]⟩
abbrev S16x256 : Shape := ⟨2, ![16, 256]⟩

abbrev nBuf : Space → Nat
  | .hbm => 92
  | .vmem => 9
  | .smem => 0
  | _ => 0

abbrev bufTy : (tb : Table) → Fin (tcTables nBuf tb) → BufTy
  | .hbm, ⟨0, _⟩ => ⟨S4x12x8x16x16, .f32⟩
  | .hbm, ⟨1, _⟩ => ⟨S4x1x1024x1024, .f32⟩
  | .hbm, ⟨2, _⟩ => ⟨S1024, .f32⟩
  | .hbm, ⟨3, _⟩ => ⟨S_, .f32⟩
  | .hbm, ⟨4, _⟩ => ⟨S1024, .f32⟩
  | .hbm, ⟨5, _⟩ => ⟨S1024, .f32⟩
  | .hbm, ⟨6, _⟩ => ⟨S_, .f32⟩
  | .hbm, ⟨7, _⟩ => ⟨S1024, .f32⟩
  | .hbm, ⟨8, _⟩ => ⟨S1024, .f32⟩
  | .hbm, ⟨9, _⟩ => ⟨S1024, .f32⟩
  | .hbm, ⟨10, _⟩ => ⟨S_, .i32⟩
  | .hbm, ⟨11, _⟩ => ⟨S_, .i32⟩
  | .hbm, ⟨12, _⟩ => ⟨S_, .f32⟩
  | .hbm, ⟨13, _⟩ => ⟨S1024, .f32⟩
  | .hbm, ⟨14, _⟩ => ⟨S1024, .f32⟩
  | .hbm, ⟨15, _⟩ => ⟨S_, .f32⟩
  | .hbm, ⟨16, _⟩ => ⟨S1024, .f32⟩
  | .hbm, ⟨17, _⟩ => ⟨S1024, .f32⟩
  | .hbm, ⟨18, _⟩ => ⟨S1024, .i32⟩
  | .hbm, ⟨19, _⟩ => ⟨S1024, .f32⟩
  | .hbm, ⟨20, _⟩ => ⟨S1024, .f32⟩
  | .hbm, ⟨21, _⟩ => ⟨S1024x1, .i32⟩
  | .hbm, ⟨22, _⟩ => ⟨S1x16, .i32⟩
  | .hbm, ⟨23, _⟩ => ⟨S1024x16, .i32⟩
  | .hbm, ⟨24, _⟩ => ⟨S1024x16, .i32⟩
  | .hbm, ⟨25, _⟩ => ⟨S1024x16, .i1⟩
  | .hbm, ⟨26, _⟩ => ⟨S1024x16, .f32⟩
  | .hbm, ⟨27, _⟩ => ⟨S_, .f32⟩
  | .hbm, ⟨28, _⟩ => ⟨S1024, .f32⟩
  | .hbm, ⟨29, _⟩ => ⟨S1024, .f32⟩
  | .hbm, ⟨30, _⟩ => ⟨S1024x1, .f32⟩
  | .hbm, ⟨31, _⟩ => ⟨S1024x16, .f32⟩
  | .hbm, ⟨32, _⟩ => ⟨S1024x16, .f32⟩
  | .hbm, ⟨33, _⟩ => ⟨S_, .i32⟩
  | .hbm, ⟨34, _⟩ => ⟨S1024, .i32⟩
  | .hbm, ⟨35, _⟩ => ⟨S1024, .i32⟩
  | .hbm, ⟨36, _⟩ => ⟨S1024x1, .i32⟩
  | .hbm, ⟨37, _⟩ => ⟨S1x16, .i32⟩
  | .hbm, ⟨38, _⟩ => ⟨S1024x16, .i32⟩
  | .hbm, ⟨39, _⟩ => ⟨S1024x16, .i32⟩
  | .hbm, ⟨40, _⟩ => ⟨S1024x16, .i1⟩
  | .hbm, ⟨41, _⟩ => ⟨S1024x16, .f32⟩
  | .hbm, ⟨42, _⟩ => ⟨S1024x1, .f32⟩
  | .hbm, ⟨43, _⟩ => ⟨S1024x16, .f32⟩
  | .hbm, ⟨44, _⟩ => ⟨S1024x16, .f32⟩
  | .hbm, ⟨45, _⟩ => ⟨S1024x16, .f32⟩
  | .hbm, ⟨46, _⟩ => ⟨S1024, .f32⟩
  | .hbm, ⟨47, _⟩ => ⟨S_, .f32⟩
  | .hbm, ⟨48, _⟩ => ⟨S1024, .f32⟩
  | .hbm, ⟨49, _⟩ => ⟨S1024, .f32⟩
  | .hbm, ⟨50, _⟩ => ⟨S_, .f32⟩
  | .hbm, ⟨51, _⟩ => ⟨S1024, .f32⟩
  | .hbm, ⟨52, _⟩ => ⟨S1024, .f32⟩
  | .hbm, ⟨53, _⟩ => ⟨S1024, .f32⟩
  | .hbm, ⟨54, _⟩ => ⟨S_, .i32⟩
  | .hbm, ⟨55, _⟩ => ⟨S_, .i32⟩
  | .hbm, ⟨56, _⟩ => ⟨S_, .f32⟩
  | .hbm, ⟨57, _⟩ => ⟨S1024, .f32⟩
  | .hbm, ⟨58, _⟩ => ⟨S1024, .f32⟩
  | .hbm, ⟨59, _⟩ => ⟨S_, .f32⟩
  | .hbm, ⟨60, _⟩ => ⟨S1024, .f32⟩
  | .hbm, ⟨61, _⟩ => ⟨S1024, .f32⟩
  | .hbm, ⟨62, _⟩ => ⟨S1024, .i32⟩
  | .hbm, ⟨63, _⟩ => ⟨S1024, .f32⟩
  | .hbm, ⟨64, _⟩ => ⟨S1024, .f32⟩
  | .hbm, ⟨65, _⟩ => ⟨S1024x1, .i32⟩
  | .hbm, ⟨66, _⟩ => ⟨S1x16, .i32⟩
  | .hbm, ⟨67, _⟩ => ⟨S1024x16, .i32⟩
  | .hbm, ⟨68, _⟩ => ⟨S1024x16, .i32⟩
  | .hbm, ⟨69, _⟩ => ⟨S1024x16, .i1⟩
  | .hbm, ⟨70, _⟩ => ⟨S1024x16, .f32⟩
  | .hbm, ⟨71, _⟩ => ⟨S_, .f32⟩
  | .hbm, ⟨72, _⟩ => ⟨S1024, .f32⟩
  | .hbm, ⟨73, _⟩ => ⟨S1024, .f32⟩
  | .hbm, ⟨74, _⟩ => ⟨S1024x1, .f32⟩
  | .hbm, ⟨75, _⟩ => ⟨S1024x16, .f32⟩
  | .hbm, ⟨76, _⟩ => ⟨S1024x16, .f32⟩
  | .hbm, ⟨77, _⟩ => ⟨S_, .i32⟩
  | .hbm, ⟨78, _⟩ => ⟨S1024, .i32⟩
  | .hbm, ⟨79, _⟩ => ⟨S1024, .i32⟩
  | .hbm, ⟨80, _⟩ => ⟨S1024x1, .i32⟩
  | .hbm, ⟨81, _⟩ => ⟨S1x16, .i32⟩
  | .hbm, ⟨82, _⟩ => ⟨S1024x16, .i32⟩
  | .hbm, ⟨83, _⟩ => ⟨S1024x16, .i32⟩
  | .hbm, ⟨84, _⟩ => ⟨S1024x16, .i1⟩
  | .hbm, ⟨85, _⟩ => ⟨S1024x16, .f32⟩
  | .hbm, ⟨86, _⟩ => ⟨S1024x1, .f32⟩
  | .hbm, ⟨87, _⟩ => ⟨S1024x16, .f32⟩
  | .hbm, ⟨88, _⟩ => ⟨S1024x16, .f32⟩
  | .hbm, ⟨89, _⟩ => ⟨S1024x16, .f32⟩
  | .hbm, ⟨90, _⟩ => ⟨S16x1024, .f32⟩
  | .hbm, ⟨91, _⟩ => ⟨S4x12x1024x1024, .f32⟩
  | .local _ .vmem, ⟨0, _⟩ => ⟨S1x12x8x16x16, .f32⟩
  | .local _ .vmem, ⟨1, _⟩ => ⟨S1x12x8x16x16, .f32⟩
  | .local _ .vmem, ⟨2, _⟩ => ⟨S1x1x128x1024, .f32⟩
  | .local _ .vmem, ⟨3, _⟩ => ⟨S1x1x128x1024, .f32⟩
  | .local _ .vmem, ⟨4, _⟩ => ⟨S128x16, .f32⟩
  | .local _ .vmem, ⟨5, _⟩ => ⟨S128x16, .f32⟩
  | .local _ .vmem, ⟨6, _⟩ => ⟨S16x1024, .f32⟩
  | .local _ .vmem, ⟨7, _⟩ => ⟨S1x12x128x1024, .f32⟩
  | .local _ .vmem, ⟨8, _⟩ => ⟨S1x12x128x1024, .f32⟩
  | _, _ => ⟨S4x12x8x16x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_call0_v2 : Ref sig .tc := ⟨.hbm, 5, rfl⟩
abbrev main_call0_cst_0 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_c : Ref sig .tc := ⟨.hbm, 10, rfl⟩
abbrev main_call0_c_1 : Ref sig .tc := ⟨.hbm, 11, rfl⟩
abbrev main_call0_call0_v0 : Ref sig .tc := ⟨.hbm, 12, rfl⟩
abbrev main_call0_call0_v1 : Ref sig .tc := ⟨.hbm, 13, rfl⟩
abbrev main_call0_call0_v2 : Ref sig .tc := ⟨.hbm, 14, rfl⟩
abbrev main_call0_call0_v3 : Ref sig .tc := ⟨.hbm, 15, rfl⟩
abbrev main_call0_call0_v4 : Ref sig .tc := ⟨.hbm, 16, rfl⟩
abbrev main_call0_v6 : Ref sig .tc := ⟨.hbm, 17, rfl⟩
abbrev main_call0_v7 : Ref sig .tc := ⟨.hbm, 18, rfl⟩
abbrev main_call0_v8 : Ref sig .tc := ⟨.hbm, 19, rfl⟩
abbrev main_call0_v9 : Ref sig .tc := ⟨.hbm, 20, rfl⟩
abbrev main_call0_call1_v0 : Ref sig .tc := ⟨.hbm, 21, rfl⟩
abbrev main_call0_call1_v1 : Ref sig .tc := ⟨.hbm, 22, rfl⟩
abbrev main_call0_call1_v2 : Ref sig .tc := ⟨.hbm, 23, rfl⟩
abbrev main_call0_call1_v3 : Ref sig .tc := ⟨.hbm, 24, rfl⟩
abbrev main_call0_call1_v4 : Ref sig .tc := ⟨.hbm, 25, rfl⟩
abbrev main_call0_v10 : Ref sig .tc := ⟨.hbm, 26, rfl⟩
abbrev main_call0_cst_2 : Ref sig .tc := ⟨.hbm, 27, rfl⟩
abbrev main_call0_v11 : Ref sig .tc := ⟨.hbm, 28, rfl⟩
abbrev main_call0_v12 : Ref sig .tc := ⟨.hbm, 29, rfl⟩
abbrev main_call0_v13 : Ref sig .tc := ⟨.hbm, 30, rfl⟩
abbrev main_call0_v14 : Ref sig .tc := ⟨.hbm, 31, rfl⟩
abbrev main_call0_v15 : Ref sig .tc := ⟨.hbm, 32, rfl⟩
abbrev main_call0_c_3 : Ref sig .tc := ⟨.hbm, 33, rfl⟩
abbrev main_call0_v16 : Ref sig .tc := ⟨.hbm, 34, rfl⟩
abbrev main_call0_v17 : Ref sig .tc := ⟨.hbm, 35, rfl⟩
abbrev main_call0_call2_v0 : Ref sig .tc := ⟨.hbm, 36, rfl⟩
abbrev main_call0_call2_v1 : Ref sig .tc := ⟨.hbm, 37, rfl⟩
abbrev main_call0_call2_v2 : Ref sig .tc := ⟨.hbm, 38, rfl⟩
abbrev main_call0_call2_v3 : Ref sig .tc := ⟨.hbm, 39, rfl⟩
abbrev main_call0_call2_v4 : Ref sig .tc := ⟨.hbm, 40, rfl⟩
abbrev main_call0_v18 : Ref sig .tc := ⟨.hbm, 41, rfl⟩
abbrev main_call0_v19 : Ref sig .tc := ⟨.hbm, 42, rfl⟩
abbrev main_call0_v20 : Ref sig .tc := ⟨.hbm, 43, rfl⟩
abbrev main_call0_v21 : Ref sig .tc := ⟨.hbm, 44, rfl⟩
abbrev main_call0_v22 : Ref sig .tc := ⟨.hbm, 45, rfl⟩
abbrev main_call0_v23 : Ref sig .tc := ⟨.hbm, 46, rfl⟩
abbrev main_call0_cst_4 : Ref sig .tc := ⟨.hbm, 47, rfl⟩
abbrev main_call0_v24 : Ref sig .tc := ⟨.hbm, 48, rfl⟩
abbrev main_call0_v25 : Ref sig .tc := ⟨.hbm, 49, rfl⟩
abbrev main_call0_cst_5 : Ref sig .tc := ⟨.hbm, 50, rfl⟩
abbrev main_call0_v26 : Ref sig .tc := ⟨.hbm, 51, rfl⟩
abbrev main_call0_v27 : Ref sig .tc := ⟨.hbm, 52, rfl⟩
abbrev main_call0_v28 : Ref sig .tc := ⟨.hbm, 53, rfl⟩
abbrev main_call0_c_6 : Ref sig .tc := ⟨.hbm, 54, rfl⟩
abbrev main_call0_c_7 : Ref sig .tc := ⟨.hbm, 55, rfl⟩
abbrev main_call0_call3_v0 : Ref sig .tc := ⟨.hbm, 56, rfl⟩
abbrev main_call0_call3_v1 : Ref sig .tc := ⟨.hbm, 57, rfl⟩
abbrev main_call0_call3_v2 : Ref sig .tc := ⟨.hbm, 58, rfl⟩
abbrev main_call0_call3_v3 : Ref sig .tc := ⟨.hbm, 59, rfl⟩
abbrev main_call0_call3_v4 : Ref sig .tc := ⟨.hbm, 60, rfl⟩
abbrev main_call0_v29 : Ref sig .tc := ⟨.hbm, 61, rfl⟩
abbrev main_call0_v30 : Ref sig .tc := ⟨.hbm, 62, rfl⟩
abbrev main_call0_v31 : Ref sig .tc := ⟨.hbm, 63, rfl⟩
abbrev main_call0_v32 : Ref sig .tc := ⟨.hbm, 64, rfl⟩
abbrev main_call0_call4_v0 : Ref sig .tc := ⟨.hbm, 65, rfl⟩
abbrev main_call0_call4_v1 : Ref sig .tc := ⟨.hbm, 66, rfl⟩
abbrev main_call0_call4_v2 : Ref sig .tc := ⟨.hbm, 67, rfl⟩
abbrev main_call0_call4_v3 : Ref sig .tc := ⟨.hbm, 68, rfl⟩
abbrev main_call0_call4_v4 : Ref sig .tc := ⟨.hbm, 69, rfl⟩
abbrev main_call0_v33 : Ref sig .tc := ⟨.hbm, 70, rfl⟩
abbrev main_call0_cst_8 : Ref sig .tc := ⟨.hbm, 71, rfl⟩
abbrev main_call0_v34 : Ref sig .tc := ⟨.hbm, 72, rfl⟩
abbrev main_call0_v35 : Ref sig .tc := ⟨.hbm, 73, rfl⟩
abbrev main_call0_v36 : Ref sig .tc := ⟨.hbm, 74, rfl⟩
abbrev main_call0_v37 : Ref sig .tc := ⟨.hbm, 75, rfl⟩
abbrev main_call0_v38 : Ref sig .tc := ⟨.hbm, 76, rfl⟩
abbrev main_call0_c_9 : Ref sig .tc := ⟨.hbm, 77, rfl⟩
abbrev main_call0_v39 : Ref sig .tc := ⟨.hbm, 78, rfl⟩
abbrev main_call0_v40 : Ref sig .tc := ⟨.hbm, 79, rfl⟩
abbrev main_call0_call5_v0 : Ref sig .tc := ⟨.hbm, 80, rfl⟩
abbrev main_call0_call5_v1 : Ref sig .tc := ⟨.hbm, 81, rfl⟩
abbrev main_call0_call5_v2 : Ref sig .tc := ⟨.hbm, 82, rfl⟩
abbrev main_call0_call5_v3 : Ref sig .tc := ⟨.hbm, 83, rfl⟩
abbrev main_call0_call5_v4 : Ref sig .tc := ⟨.hbm, 84, rfl⟩
abbrev main_call0_v41 : Ref sig .tc := ⟨.hbm, 85, rfl⟩
abbrev main_call0_v42 : Ref sig .tc := ⟨.hbm, 86, rfl⟩
abbrev main_call0_v43 : Ref sig .tc := ⟨.hbm, 87, rfl⟩
abbrev main_call0_v44 : Ref sig .tc := ⟨.hbm, 88, rfl⟩
abbrev main_call0_v45 : Ref sig .tc := ⟨.hbm, 89, rfl⟩
abbrev main_call0_v46 : Ref sig .tc := ⟨.hbm, 90, rfl⟩
abbrev main_v0 : Ref sig .tc := ⟨.hbm, 91, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![4, 8], ![false, false]⟩

def cc0_transform_0 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, c0_i32_1.toNat, c0_i32_2.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S1x12x8x16x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1x128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S16x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x12x128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ReferenceIdeal.lean ====
abbrev S4x12x8x16x16 : Shape := ⟨5, ![4, 12, 8, 16, 16]⟩
abbrev S4x1x1024x1024 : Shape := ⟨4, ![4, 1, 1024, 1024]⟩
abbrev S1024 : Shape := ⟨1, ![1024]⟩
abbrev S_ : Shape := ⟨0, ![]⟩
abbrev S1024x1024 : Shape := ⟨2, ![1024, 1024]⟩
abbrev S1x1024x1024 : Shape := ⟨3, ![1, 1024, 1024]⟩
abbrev S4x1024x1024 : Shape := ⟨3, ![4, 1024, 1024]⟩
abbrev S4x1024x1024x1 : Shape := ⟨4, ![4, 1024, 1024, 1]⟩
abbrev S4x1024x1024x3 : Shape := ⟨4, ![4, 1024, 1024, 3]⟩
abbrev S4x1x1024x1024x3 : Shape := ⟨5, ![4, 1, 1024, 1024, 3]⟩
abbrev S4x1x1024x1024x1 : Shape := ⟨5, ![4, 1, 1024, 1024, 1]⟩
abbrev S4x8x16x16x12 : Shape := ⟨5, ![4, 8, 16, 16, 12]⟩
abbrev S4 : Shape := ⟨1, ![4]⟩
abbrev S4x1x1x1 : Shape := ⟨4, ![4, 1, 1, 1]⟩
abbrev S4x1x1024x1024x4 : Shape := ⟨5, ![4, 1, 1024, 1024, 4]⟩
abbrev S4x1x1024x1024x12 : Shape := ⟨5, ![4, 1, 1024, 1024, 12]⟩
abbrev S4x12x1x1024x1024 : Shape := ⟨5, ![4, 12, 1, 1024, 1024]⟩
abbrev S4x12x1024x1024 : Shape := ⟨4, ![4, 12, 1024, 1024]⟩

abbrev nBuf : Space → Nat
  | .hbm => 831
  | .vmem => 0
  | .smem => 0
  | _ => 0

abbrev hbmTy0_0 (i : Nat) : BufTy := match i % 128 with
  | 0 => ⟨S4x12x8x16x16, .f32⟩
  | 1 => ⟨S4x1x1024x1024, .f32⟩
  | 2 => ⟨S1024, .f32⟩
  | 3 => ⟨S_, .f32⟩
  | 4 => ⟨S1024, .f32⟩
  | 5 => ⟨S1024, .f32⟩
  | 6 => ⟨S_, .f32⟩
  | 7 => ⟨S1024, .f32⟩
  | 8 => ⟨S1024, .f32⟩
  | 9 => ⟨S_, .f32⟩
  | 10 => ⟨S1024, .f32⟩
  | 11 => ⟨S1024, .f32⟩
  | 12 => ⟨S1024, .f32⟩
  | 13 => ⟨S_, .f32⟩
  | 14 => ⟨S1024, .f32⟩
  | 15 => ⟨S1024, .f32⟩
  | 16 => ⟨S_, .f32⟩
  | 17 => ⟨S1024, .f32⟩
  | 18 => ⟨S1024, .f32⟩
  | 19 => ⟨S_, .f32⟩
  | 20 => ⟨S1024, .f32⟩
  | 21 => ⟨S1024, .f32⟩
  | 22 => ⟨S1024x1024, .f32⟩
  | 23 => ⟨S1024x1024, .f32⟩
  | 24 => ⟨S1x1024x1024, .f32⟩
  | 25 => ⟨S4x1024x1024, .f32⟩
  | 26 => ⟨S4x1024x1024x1, .f32⟩
  | 27 => ⟨S1x1024x1024, .f32⟩
  | 28 => ⟨S4x1024x1024, .f32⟩
  | 29 => ⟨S4x1024x1024x1, .f32⟩
  | 30 => ⟨S4x1024x1024x1, .f32⟩
  | 31 => ⟨S4x1024x1024x3, .f32⟩
  | 32 => ⟨S4x1x1024x1024x3, .f32⟩
  | 33 => ⟨S4x1x1024x1024x1, .f32⟩
  | 34 => ⟨S4x1x1024x1024, .f32⟩
  | 35 => ⟨S4x1x1024x1024x1, .f32⟩
  | 36 => ⟨S4x1x1024x1024, .f32⟩
  | 37 => ⟨S4x1x1024x1024x1, .f32⟩
  | 38 => ⟨S4x1x1024x1024, .f32⟩
  | 39 => ⟨S_, .f32⟩
  | 40 => ⟨S4x1x1024x1024, .f32⟩
  | 41 => ⟨S4x1x1024x1024, .f32⟩
  | 42 => ⟨S_, .f32⟩
  | 43 => ⟨S4x1x1024x1024, .f32⟩
  | 44 => ⟨S4x1x1024x1024, .f32⟩
  | 45 => ⟨S_, .f32⟩
  | 46 => ⟨S4x1x1024x1024, .f32⟩
  | 47 => ⟨S4x1x1024x1024, .f32⟩
  | 48 => ⟨S_, .f32⟩
  | 49 => ⟨S4x1x1024x1024, .f32⟩
  | 50 => ⟨S4x1x1024x1024, .f32⟩
  | 51 => ⟨S_, .f32⟩
  | 52 => ⟨S4x1x1024x1024, .f32⟩
  | 53 => ⟨S4x1x1024x1024, .f32⟩
  | 54 => ⟨S_, .f32⟩
  | 55 => ⟨S4x1x1024x1024, .f32⟩
  | 56 => ⟨S4x1x1024x1024, .f32⟩
  | 57 => ⟨S_, .f32⟩
  | 58 => ⟨S4x1x1024x1024, .f32⟩
  | 59 => ⟨S4x1x1024x1024, .f32⟩
  | 60 => ⟨S_, .f32⟩
  | 61 => ⟨S4x1x1024x1024, .f32⟩
  | 62 => ⟨S4x1x1024x1024, .f32⟩
  | 63 => ⟨S_, .f32⟩
  | 64 => ⟨S4x1x1024x1024, .f32⟩
  | 65 => ⟨S4x1x1024x1024, .f32⟩
  | 66 => ⟨S4x1x1024x1024, .f32⟩
  | 67 => ⟨S4x1x1024x1024, .f32⟩
  | 68 => ⟨S4x1x1024x1024, .f32⟩
  | 69 => ⟨S_, .f32⟩
  | 70 => ⟨S4x1x1024x1024, .f32⟩
  | 71 => ⟨S4x1x1024x1024, .f32⟩
  | 72 => ⟨S_, .f32⟩
  | 73 => ⟨S4x1x1024x1024, .f32⟩
  | 74 => ⟨S4x1x1024x1024, .f32⟩
  | 75 => ⟨S_, .f32⟩
  | 76 => ⟨S4x1x1024x1024, .f32⟩
  | 77 => ⟨S4x1x1024x1024, .f32⟩
  | 78 => ⟨S4x1x1024x1024, .f32⟩
  | 79 => ⟨S_, .f32⟩
  | 80 => ⟨S4x1x1024x1024, .f32⟩
  | 81 => ⟨S4x1x1024x1024, .f32⟩
  | 82 => ⟨S4x1x1024x1024, .f32⟩
  | 83 => ⟨S_, .f32⟩
  | 84 => ⟨S4x1x1024x1024, .f32⟩
  | 85 => ⟨S4x1x1024x1024, .f32⟩
  | 86 => ⟨S4x1x1024x1024, .f32⟩
  | 87 => ⟨S_, .f32⟩
  | 88 => ⟨S4x1x1024x1024, .f32⟩
  | 89 => ⟨S4x1x1024x1024, .f32⟩
  | 90 => ⟨S4x8x16x16x12, .f32⟩
  | 91 => ⟨S4, .i32⟩
  | 92 => ⟨S4x1x1x1, .i32⟩
  | 93 => ⟨S4x1x1024x1024, .i32⟩
  | 94 => ⟨S4x1x1024x1024, .f32⟩
  | 95 => ⟨S4x1x1024x1024, .f32⟩
  | 96 => ⟨S_, .i32⟩
  | 97 => ⟨S_, .i32⟩
  | 98 => ⟨S_, .f32⟩
  | 99 => ⟨S4x1x1024x1024, .f32⟩
  | 100 => ⟨S4x1x1024x1024, .f32⟩
  | 101 => ⟨S_, .f32⟩
  | 102 => ⟨S4x1x1024x1024, .f32⟩
  | 103 => ⟨S4x1x1024x1024, .f32⟩
  | 104 => ⟨S4x1x1024x1024, .i32⟩
  | 105 => ⟨S_, .i32⟩
  | 106 => ⟨S_, .i32⟩
  | 107 => ⟨S_, .f32⟩
  | 108 => ⟨S4x1x1024x1024, .f32⟩
  | 109 => ⟨S4x1x1024x1024, .f32⟩
  | 110 => ⟨S_, .f32⟩
  | 111 => ⟨S4x1x1024x1024, .f32⟩
  | 112 => ⟨S4x1x1024x1024, .f32⟩
  | 113 => ⟨S4x1x1024x1024, .i32⟩
  | 114 => ⟨S_, .i32⟩
  | 115 => ⟨S_, .i32⟩
  | 116 => ⟨S_, .f32⟩
  | 117 => ⟨S4x1x1024x1024, .f32⟩
  | 118 => ⟨S4x1x1024x1024, .f32⟩
  | 119 => ⟨S_, .f32⟩
  | 120 => ⟨S4x1x1024x1024, .f32⟩
  | 121 => ⟨S4x1x1024x1024, .f32⟩
  | 122 => ⟨S4x1x1024x1024, .i32⟩
  | 123 => ⟨S_, .f32⟩
  | 124 => ⟨S4x1x1024x1024, .f32⟩
  | 125 => ⟨S4x1x1024x1024, .i1⟩
  | 126 => ⟨S_, .f32⟩
  | 127 => ⟨S4x1x1024x1024, .f32⟩
  | _ => ⟨S4x12x8x16x16, .f32⟩

abbrev hbmTy0_1 (i : Nat) : BufTy := match i % 128 with
  | 0 => ⟨S4x1x1024x1024, .i1⟩
  | 1 => ⟨S4x1x1024x1024, .i1⟩
  | 2 => ⟨S_, .f32⟩
  | 3 => ⟨S4x1x1024x1024, .f32⟩
  | 4 => ⟨S4x1x1024x1024, .i1⟩
  | 5 => ⟨S4x1x1024x1024, .i1⟩
  | 6 => ⟨S_, .f32⟩
  | 7 => ⟨S4x1x1024x1024, .f32⟩
  | 8 => ⟨S4x1x1024x1024, .i1⟩
  | 9 => ⟨S4x1x1024x1024, .i1⟩
  | 10 => ⟨S_, .f32⟩
  | 11 => ⟨S4x1x1024x1024, .f32⟩
  | 12 => ⟨S4x1x1024x1024, .i1⟩
  | 13 => ⟨S4x1x1024x1024, .i1⟩
  | 14 => ⟨S_, .f32⟩
  | 15 => ⟨S4x1x1024x1024, .f32⟩
  | 16 => ⟨S4x1x1024x1024, .i1⟩
  | 17 => ⟨S4x1x1024x1024, .i1⟩
  | 18 => ⟨S4x1x1024x1024, .f32⟩
  | 19 => ⟨S_, .i32⟩
  | 20 => ⟨S4x1x1024x1024, .i32⟩
  | 21 => ⟨S4x1x1024x1024, .i1⟩
  | 22 => ⟨S_, .i32⟩
  | 23 => ⟨S4x1x1024x1024, .i32⟩
  | 24 => ⟨S4x1x1024x1024, .i32⟩
  | 25 => ⟨S4x1x1024x1024, .i32⟩
  | 26 => ⟨S_, .i32⟩
  | 27 => ⟨S4x1x1024x1024, .i32⟩
  | 28 => ⟨S4x1x1024x1024, .i1⟩
  | 29 => ⟨S_, .i32⟩
  | 30 => ⟨S4x1x1024x1024, .i32⟩
  | 31 => ⟨S4x1x1024x1024, .i32⟩
  | 32 => ⟨S4x1x1024x1024, .i32⟩
  | 33 => ⟨S_, .i32⟩
  | 34 => ⟨S4x1x1024x1024, .i32⟩
  | 35 => ⟨S4x1x1024x1024, .i1⟩
  | 36 => ⟨S_, .i32⟩
  | 37 => ⟨S4x1x1024x1024, .i32⟩
  | 38 => ⟨S4x1x1024x1024, .i32⟩
  | 39 => ⟨S4x1x1024x1024, .i32⟩
  | 40 => ⟨S_, .i32⟩
  | 41 => ⟨S4x1x1024x1024, .i32⟩
  | 42 => ⟨S4x1x1024x1024, .i1⟩
  | 43 => ⟨S_, .i32⟩
  | 44 => ⟨S4x1x1024x1024, .i32⟩
  | 45 => ⟨S4x1x1024x1024, .i32⟩
  | 46 => ⟨S4x1x1024x1024, .i32⟩
  | 47 => ⟨S4x1x1024x1024x1, .i32⟩
  | 48 => ⟨S4x1x1024x1024x1, .i32⟩
  | 49 => ⟨S4x1x1024x1024x1, .i32⟩
  | 50 => ⟨S4x1x1024x1024x1, .i32⟩
  | 51 => ⟨S4x1x1024x1024x4, .i32⟩
  | 52 => ⟨S4x1x1024x1024x12, .f32⟩
  | 53 => ⟨S4x1x1024x1024, .f32⟩
  | 54 => ⟨S4x1x1024x1024x1, .f32⟩
  | 55 => ⟨S4x1x1024x1024x12, .f32⟩
  | 56 => ⟨S4x1x1024x1024x12, .f32⟩
  | 57 => ⟨S4x1x1024x1024, .f32⟩
  | 58 => ⟨S4x1x1024x1024, .f32⟩
  | 59 => ⟨S_, .i32⟩
  | 60 => ⟨S_, .i32⟩
  | 61 => ⟨S_, .f32⟩
  | 62 => ⟨S4x1x1024x1024, .f32⟩
  | 63 => ⟨S4x1x1024x1024, .f32⟩
  | 64 => ⟨S_, .f32⟩
  | 65 => ⟨S4x1x1024x1024, .f32⟩
  | 66 => ⟨S4x1x1024x1024, .f32⟩
  | 67 => ⟨S4x1x1024x1024, .i32⟩
  | 68 => ⟨S_, .i32⟩
  | 69 => ⟨S_, .i32⟩
  | 70 => ⟨S_, .f32⟩
  | 71 => ⟨S4x1x1024x1024, .f32⟩
  | 72 => ⟨S4x1x1024x1024, .f32⟩
  | 73 => ⟨S_, .f32⟩
  | 74 => ⟨S4x1x1024x1024, .f32⟩
  | 75 => ⟨S4x1x1024x1024, .f32⟩
  | 76 => ⟨S4x1x1024x1024, .i32⟩
  | 77 => ⟨S_, .i32⟩
  | 78 => ⟨S_, .i32⟩
  | 79 => ⟨S_, .f32⟩
  | 80 => ⟨S4x1x1024x1024, .f32⟩
  | 81 => ⟨S4x1x1024x1024, .f32⟩
  | 82 => ⟨S_, .f32⟩
  | 83 => ⟨S4x1x1024x1024, .f32⟩
  | 84 => ⟨S4x1x1024x1024, .f32⟩
  | 85 => ⟨S4x1x1024x1024, .i32⟩
  | 86 => ⟨S_, .f32⟩
  | 87 => ⟨S4x1x1024x1024, .f32⟩
  | 88 => ⟨S4x1x1024x1024, .i1⟩
  | 89 => ⟨S_, .f32⟩
  | 90 => ⟨S4x1x1024x1024, .f32⟩
  | 91 => ⟨S4x1x1024x1024, .i1⟩
  | 92 => ⟨S4x1x1024x1024, .i1⟩
  | 93 => ⟨S_, .f32⟩
  | 94 => ⟨S4x1x1024x1024, .f32⟩
  | 95 => ⟨S4x1x1024x1024, .i1⟩
  | 96 => ⟨S4x1x1024x1024, .i1⟩
  | 97 => ⟨S_, .f32⟩
  | 98 => ⟨S4x1x1024x1024, .f32⟩
  | 99 => ⟨S4x1x1024x1024, .i1⟩
  | 100 => ⟨S4x1x1024x1024, .i1⟩
  | 101 => ⟨S_, .f32⟩
  | 102 => ⟨S4x1x1024x1024, .f32⟩
  | 103 => ⟨S4x1x1024x1024, .i1⟩
  | 104 => ⟨S4x1x1024x1024, .i1⟩
  | 105 => ⟨S_, .f32⟩
  | 106 => ⟨S4x1x1024x1024, .f32⟩
  | 107 => ⟨S4x1x1024x1024, .i1⟩
  | 108 => ⟨S4x1x1024x1024, .i1⟩
  | 109 => ⟨S4x1x1024x1024, .f32⟩
  | 110 => ⟨S_, .i32⟩
  | 111 => ⟨S4x1x1024x1024, .i32⟩
  | 112 => ⟨S4x1x1024x1024, .i1⟩
  | 113 => ⟨S_, .i32⟩
  | 114 => ⟨S4x1x1024x1024, .i32⟩
  | 115 => ⟨S4x1x1024x1024, .i32⟩
  | 116 => ⟨S4x1x1024x1024, .i32⟩
  | 117 => ⟨S_, .i32⟩
  | 118 => ⟨S4x1x1024x1024, .i32⟩
  | 119 => ⟨S4x1x1024x1024, .i1⟩
  | 120 => ⟨S_, .i32⟩
  | 121 => ⟨S4x1x1024x1024, .i32⟩
  | 122 => ⟨S4x1x1024x1024, .i32⟩
  | 123 => ⟨S4x1x1024x1024, .i32⟩
  | 124 => ⟨S_, .i32⟩
  | 125 => ⟨S4x1x1024x1024, .i32⟩
  | 126 => ⟨S4x1x1024x1024, .i1⟩
  | 127 => ⟨S_, .i32⟩
  | _ => ⟨S4x12x8x16x16, .f32⟩

abbrev hbmTy0_2 (i : Nat) : BufTy := match i % 128 with
  | 0 => ⟨S4x1x1024x1024, .i32⟩
  | 1 => ⟨S4x1x1024x1024, .i32⟩
  | 2 => ⟨S4x1x1024x1024, .i32⟩
  | 3 => ⟨S_, .i32⟩
  | 4 => ⟨S4x1x1024x1024, .i32⟩
  | 5 => ⟨S4x1x1024x1024, .i1⟩
  | 6 => ⟨S_, .i32⟩
  | 7 => ⟨S4x1x1024x1024, .i32⟩
  | 8 => ⟨S4x1x1024x1024, .i32⟩
  | 9 => ⟨S4x1x1024x1024, .i32⟩
  | 10 => ⟨S4x1x1024x1024x1, .i32⟩
  | 11 => ⟨S4x1x1024x1024x1, .i32⟩
  | 12 => ⟨S4x1x1024x1024x1, .i32⟩
  | 13 => ⟨S4x1x1024x1024x1, .i32⟩
  | 14 => ⟨S4x1x1024x1024x4, .i32⟩
  | 15 => ⟨S4x1x1024x1024x12, .f32⟩
  | 16 => ⟨S4x1x1024x1024, .f32⟩
  | 17 => ⟨S4x1x1024x1024x1, .f32⟩
  | 18 => ⟨S4x1x1024x1024x12, .f32⟩
  | 19 => ⟨S4x1x1024x1024x12, .f32⟩
  | 20 => ⟨S4x1x1024x1024x12, .f32⟩
  | 21 => ⟨S4x1x1024x1024, .f32⟩
  | 22 => ⟨S4x1x1024x1024, .f32⟩
  | 23 => ⟨S_, .i32⟩
  | 24 => ⟨S_, .i32⟩
  | 25 => ⟨S_, .f32⟩
  | 26 => ⟨S4x1x1024x1024, .f32⟩
  | 27 => ⟨S4x1x1024x1024, .f32⟩
  | 28 => ⟨S_, .f32⟩
  | 29 => ⟨S4x1x1024x1024, .f32⟩
  | 30 => ⟨S4x1x1024x1024, .f32⟩
  | 31 => ⟨S4x1x1024x1024, .i32⟩
  | 32 => ⟨S_, .i32⟩
  | 33 => ⟨S_, .i32⟩
  | 34 => ⟨S_, .f32⟩
  | 35 => ⟨S4x1x1024x1024, .f32⟩
  | 36 => ⟨S4x1x1024x1024, .f32⟩
  | 37 => ⟨S_, .f32⟩
  | 38 => ⟨S4x1x1024x1024, .f32⟩
  | 39 => ⟨S4x1x1024x1024, .f32⟩
  | 40 => ⟨S4x1x1024x1024, .i32⟩
  | 41 => ⟨S_, .i32⟩
  | 42 => ⟨S_, .i32⟩
  | 43 => ⟨S_, .f32⟩
  | 44 => ⟨S4x1x1024x1024, .f32⟩
  | 45 => ⟨S4x1x1024x1024, .f32⟩
  | 46 => ⟨S_, .f32⟩
  | 47 => ⟨S4x1x1024x1024, .f32⟩
  | 48 => ⟨S4x1x1024x1024, .f32⟩
  | 49 => ⟨S4x1x1024x1024, .i32⟩
  | 50 => ⟨S_, .f32⟩
  | 51 => ⟨S4x1x1024x1024, .f32⟩
  | 52 => ⟨S4x1x1024x1024, .i1⟩
  | 53 => ⟨S_, .f32⟩
  | 54 => ⟨S4x1x1024x1024, .f32⟩
  | 55 => ⟨S4x1x1024x1024, .i1⟩
  | 56 => ⟨S4x1x1024x1024, .i1⟩
  | 57 => ⟨S_, .f32⟩
  | 58 => ⟨S4x1x1024x1024, .f32⟩
  | 59 => ⟨S4x1x1024x1024, .i1⟩
  | 60 => ⟨S4x1x1024x1024, .i1⟩
  | 61 => ⟨S_, .f32⟩
  | 62 => ⟨S4x1x1024x1024, .f32⟩
  | 63 => ⟨S4x1x1024x1024, .i1⟩
  | 64 => ⟨S4x1x1024x1024, .i1⟩
  | 65 => ⟨S_, .f32⟩
  | 66 => ⟨S4x1x1024x1024, .f32⟩
  | 67 => ⟨S4x1x1024x1024, .i1⟩
  | 68 => ⟨S4x1x1024x1024, .i1⟩
  | 69 => ⟨S_, .f32⟩
  | 70 => ⟨S4x1x1024x1024, .f32⟩
  | 71 => ⟨S4x1x1024x1024, .i1⟩
  | 72 => ⟨S4x1x1024x1024, .i1⟩
  | 73 => ⟨S4x1x1024x1024, .f32⟩
  | 74 => ⟨S_, .i32⟩
  | 75 => ⟨S4x1x1024x1024, .i32⟩
  | 76 => ⟨S4x1x1024x1024, .i1⟩
  | 77 => ⟨S_, .i32⟩
  | 78 => ⟨S4x1x1024x1024, .i32⟩
  | 79 => ⟨S4x1x1024x1024, .i32⟩
  | 80 => ⟨S4x1x1024x1024, .i32⟩
  | 81 => ⟨S_, .i32⟩
  | 82 => ⟨S4x1x1024x1024, .i32⟩
  | 83 => ⟨S4x1x1024x1024, .i1⟩
  | 84 => ⟨S_, .i32⟩
  | 85 => ⟨S4x1x1024x1024, .i32⟩
  | 86 => ⟨S4x1x1024x1024, .i32⟩
  | 87 => ⟨S4x1x1024x1024, .i32⟩
  | 88 => ⟨S_, .i32⟩
  | 89 => ⟨S4x1x1024x1024, .i32⟩
  | 90 => ⟨S4x1x1024x1024, .i1⟩
  | 91 => ⟨S_, .i32⟩
  | 92 => ⟨S4x1x1024x1024, .i32⟩
  | 93 => ⟨S4x1x1024x1024, .i32⟩
  | 94 => ⟨S4x1x1024x1024, .i32⟩
  | 95 => ⟨S_, .i32⟩
  | 96 => ⟨S4x1x1024x1024, .i32⟩
  | 97 => ⟨S4x1x1024x1024, .i1⟩
  | 98 => ⟨S_, .i32⟩
  | 99 => ⟨S4x1x1024x1024, .i32⟩
  | 100 => ⟨S4x1x1024x1024, .i32⟩
  | 101 => ⟨S4x1x1024x1024, .i32⟩
  | 102 => ⟨S4x1x1024x1024x1, .i32⟩
  | 103 => ⟨S4x1x1024x1024x1, .i32⟩
  | 104 => ⟨S4x1x1024x1024x1, .i32⟩
  | 105 => ⟨S4x1x1024x1024x1, .i32⟩
  | 106 => ⟨S4x1x1024x1024x4, .i32⟩
  | 107 => ⟨S4x1x1024x1024x12, .f32⟩
  | 108 => ⟨S4x1x1024x1024, .f32⟩
  | 109 => ⟨S4x1x1024x1024x1, .f32⟩
  | 110 => ⟨S4x1x1024x1024x12, .f32⟩
  | 111 => ⟨S4x1x1024x1024x12, .f32⟩
  | 112 => ⟨S4x1x1024x1024x12, .f32⟩
  | 113 => ⟨S4x1x1024x1024, .f32⟩
  | 114 => ⟨S4x1x1024x1024, .f32⟩
  | 115 => ⟨S_, .i32⟩
  | 116 => ⟨S_, .i32⟩
  | 117 => ⟨S_, .f32⟩
  | 118 => ⟨S4x1x1024x1024, .f32⟩
  | 119 => ⟨S4x1x1024x1024, .f32⟩
  | 120 => ⟨S_, .f32⟩
  | 121 => ⟨S4x1x1024x1024, .f32⟩
  | 122 => ⟨S4x1x1024x1024, .f32⟩
  | 123 => ⟨S4x1x1024x1024, .i32⟩
  | 124 => ⟨S_, .i32⟩
  | 125 => ⟨S_, .i32⟩
  | 126 => ⟨S_, .f32⟩
  | 127 => ⟨S4x1x1024x1024, .f32⟩
  | _ => ⟨S4x12x8x16x16, .f32⟩

abbrev hbmTy0_3 (i : Nat) : BufTy := match i % 128 with
  | 0 => ⟨S4x1x1024x1024, .f32⟩
  | 1 => ⟨S_, .f32⟩
  | 2 => ⟨S4x1x1024x1024, .f32⟩
  | 3 => ⟨S4x1x1024x1024, .f32⟩
  | 4 => ⟨S4x1x1024x1024, .i32⟩
  | 5 => ⟨S_, .i32⟩
  | 6 => ⟨S_, .i32⟩
  | 7 => ⟨S_, .f32⟩
  | 8 => ⟨S4x1x1024x1024, .f32⟩
  | 9 => ⟨S4x1x1024x1024, .f32⟩
  | 10 => ⟨S_, .f32⟩
  | 11 => ⟨S4x1x1024x1024, .f32⟩
  | 12 => ⟨S4x1x1024x1024, .f32⟩
  | 13 => ⟨S4x1x1024x1024, .i32⟩
  | 14 => ⟨S_, .f32⟩
  | 15 => ⟨S4x1x1024x1024, .f32⟩
  | 16 => ⟨S4x1x1024x1024, .i1⟩
  | 17 => ⟨S_, .f32⟩
  | 18 => ⟨S4x1x1024x1024, .f32⟩
  | 19 => ⟨S4x1x1024x1024, .i1⟩
  | 20 => ⟨S4x1x1024x1024, .i1⟩
  | 21 => ⟨S_, .f32⟩
  | 22 => ⟨S4x1x1024x1024, .f32⟩
  | 23 => ⟨S4x1x1024x1024, .i1⟩
  | 24 => ⟨S4x1x1024x1024, .i1⟩
  | 25 => ⟨S_, .f32⟩
  | 26 => ⟨S4x1x1024x1024, .f32⟩
  | 27 => ⟨S4x1x1024x1024, .i1⟩
  | 28 => ⟨S4x1x1024x1024, .i1⟩
  | 29 => ⟨S_, .f32⟩
  | 30 => ⟨S4x1x1024x1024, .f32⟩
  | 31 => ⟨S4x1x1024x1024, .i1⟩
  | 32 => ⟨S4x1x1024x1024, .i1⟩
  | 33 => ⟨S_, .f32⟩
  | 34 => ⟨S4x1x1024x1024, .f32⟩
  | 35 => ⟨S4x1x1024x1024, .i1⟩
  | 36 => ⟨S4x1x1024x1024, .i1⟩
  | 37 => ⟨S4x1x1024x1024, .f32⟩
  | 38 => ⟨S_, .i32⟩
  | 39 => ⟨S4x1x1024x1024, .i32⟩
  | 40 => ⟨S4x1x1024x1024, .i1⟩
  | 41 => ⟨S_, .i32⟩
  | 42 => ⟨S4x1x1024x1024, .i32⟩
  | 43 => ⟨S4x1x1024x1024, .i32⟩
  | 44 => ⟨S4x1x1024x1024, .i32⟩
  | 45 => ⟨S_, .i32⟩
  | 46 => ⟨S4x1x1024x1024, .i32⟩
  | 47 => ⟨S4x1x1024x1024, .i1⟩
  | 48 => ⟨S_, .i32⟩
  | 49 => ⟨S4x1x1024x1024, .i32⟩
  | 50 => ⟨S4x1x1024x1024, .i32⟩
  | 51 => ⟨S4x1x1024x1024, .i32⟩
  | 52 => ⟨S_, .i32⟩
  | 53 => ⟨S4x1x1024x1024, .i32⟩
  | 54 => ⟨S4x1x1024x1024, .i1⟩
  | 55 => ⟨S_, .i32⟩
  | 56 => ⟨S4x1x1024x1024, .i32⟩
  | 57 => ⟨S4x1x1024x1024, .i32⟩
  | 58 => ⟨S4x1x1024x1024, .i32⟩
  | 59 => ⟨S_, .i32⟩
  | 60 => ⟨S4x1x1024x1024, .i32⟩
  | 61 => ⟨S4x1x1024x1024, .i1⟩
  | 62 => ⟨S_, .i32⟩
  | 63 => ⟨S4x1x1024x1024, .i32⟩
  | 64 => ⟨S4x1x1024x1024, .i32⟩
  | 65 => ⟨S4x1x1024x1024, .i32⟩
  | 66 => ⟨S4x1x1024x1024x1, .i32⟩
  | 67 => ⟨S4x1x1024x1024x1, .i32⟩
  | 68 => ⟨S4x1x1024x1024x1, .i32⟩
  | 69 => ⟨S4x1x1024x1024x1, .i32⟩
  | 70 => ⟨S4x1x1024x1024x4, .i32⟩
  | 71 => ⟨S4x1x1024x1024x12, .f32⟩
  | 72 => ⟨S4x1x1024x1024, .f32⟩
  | 73 => ⟨S4x1x1024x1024x1, .f32⟩
  | 74 => ⟨S4x1x1024x1024x12, .f32⟩
  | 75 => ⟨S4x1x1024x1024x12, .f32⟩
  | 76 => ⟨S4x1x1024x1024x12, .f32⟩
  | 77 => ⟨S4x1x1024x1024, .f32⟩
  | 78 => ⟨S4x1x1024x1024, .f32⟩
  | 79 => ⟨S_, .i32⟩
  | 80 => ⟨S_, .i32⟩
  | 81 => ⟨S_, .f32⟩
  | 82 => ⟨S4x1x1024x1024, .f32⟩
  | 83 => ⟨S4x1x1024x1024, .f32⟩
  | 84 => ⟨S_, .f32⟩
  | 85 => ⟨S4x1x1024x1024, .f32⟩
  | 86 => ⟨S4x1x1024x1024, .f32⟩
  | 87 => ⟨S4x1x1024x1024, .i32⟩
  | 88 => ⟨S_, .i32⟩
  | 89 => ⟨S_, .i32⟩
  | 90 => ⟨S_, .f32⟩
  | 91 => ⟨S4x1x1024x1024, .f32⟩
  | 92 => ⟨S4x1x1024x1024, .f32⟩
  | 93 => ⟨S_, .f32⟩
  | 94 => ⟨S4x1x1024x1024, .f32⟩
  | 95 => ⟨S4x1x1024x1024, .f32⟩
  | 96 => ⟨S4x1x1024x1024, .i32⟩
  | 97 => ⟨S_, .i32⟩
  | 98 => ⟨S_, .i32⟩
  | 99 => ⟨S_, .f32⟩
  | 100 => ⟨S4x1x1024x1024, .f32⟩
  | 101 => ⟨S4x1x1024x1024, .f32⟩
  | 102 => ⟨S_, .f32⟩
  | 103 => ⟨S4x1x1024x1024, .f32⟩
  | 104 => ⟨S4x1x1024x1024, .f32⟩
  | 105 => ⟨S4x1x1024x1024, .i32⟩
  | 106 => ⟨S_, .f32⟩
  | 107 => ⟨S4x1x1024x1024, .f32⟩
  | 108 => ⟨S4x1x1024x1024, .i1⟩
  | 109 => ⟨S_, .f32⟩
  | 110 => ⟨S4x1x1024x1024, .f32⟩
  | 111 => ⟨S4x1x1024x1024, .i1⟩
  | 112 => ⟨S4x1x1024x1024, .i1⟩
  | 113 => ⟨S_, .f32⟩
  | 114 => ⟨S4x1x1024x1024, .f32⟩
  | 115 => ⟨S4x1x1024x1024, .i1⟩
  | 116 => ⟨S4x1x1024x1024, .i1⟩
  | 117 => ⟨S_, .f32⟩
  | 118 => ⟨S4x1x1024x1024, .f32⟩
  | 119 => ⟨S4x1x1024x1024, .i1⟩
  | 120 => ⟨S4x1x1024x1024, .i1⟩
  | 121 => ⟨S_, .f32⟩
  | 122 => ⟨S4x1x1024x1024, .f32⟩
  | 123 => ⟨S4x1x1024x1024, .i1⟩
  | 124 => ⟨S4x1x1024x1024, .i1⟩
  | 125 => ⟨S_, .f32⟩
  | 126 => ⟨S4x1x1024x1024, .f32⟩
  | 127 => ⟨S4x1x1024x1024, .i1⟩
  | _ => ⟨S4x12x8x16x16, .f32⟩

abbrev hbmTy0_4 (i : Nat) : BufTy := match i % 128 with
  | 0 => ⟨S4x1x1024x1024, .i1⟩
  | 1 => ⟨S4x1x1024x1024, .f32⟩
  | 2 => ⟨S_, .i32⟩
  | 3 => ⟨S4x1x1024x1024, .i32⟩
  | 4 => ⟨S4x1x1024x1024, .i1⟩
  | 5 => ⟨S_, .i32⟩
  | 6 => ⟨S4x1x1024x1024, .i32⟩
  | 7 => ⟨S4x1x1024x1024, .i32⟩
  | 8 => ⟨S4x1x1024x1024, .i32⟩
  | 9 => ⟨S_, .i32⟩
  | 10 => ⟨S4x1x1024x1024, .i32⟩
  | 11 => ⟨S4x1x1024x1024, .i1⟩
  | 12 => ⟨S_, .i32⟩
  | 13 => ⟨S4x1x1024x1024, .i32⟩
  | 14 => ⟨S4x1x1024x1024, .i32⟩
  | 15 => ⟨S4x1x1024x1024, .i32⟩
  | 16 => ⟨S_, .i32⟩
  | 17 => ⟨S4x1x1024x1024, .i32⟩
  | 18 => ⟨S4x1x1024x1024, .i1⟩
  | 19 => ⟨S_, .i32⟩
  | 20 => ⟨S4x1x1024x1024, .i32⟩
  | 21 => ⟨S4x1x1024x1024, .i32⟩
  | 22 => ⟨S4x1x1024x1024, .i32⟩
  | 23 => ⟨S_, .i32⟩
  | 24 => ⟨S4x1x1024x1024, .i32⟩
  | 25 => ⟨S4x1x1024x1024, .i1⟩
  | 26 => ⟨S_, .i32⟩
  | 27 => ⟨S4x1x1024x1024, .i32⟩
  | 28 => ⟨S4x1x1024x1024, .i32⟩
  | 29 => ⟨S4x1x1024x1024, .i32⟩
  | 30 => ⟨S4x1x1024x1024x1, .i32⟩
  | 31 => ⟨S4x1x1024x1024x1, .i32⟩
  | 32 => ⟨S4x1x1024x1024x1, .i32⟩
  | 33 => ⟨S4x1x1024x1024x1, .i32⟩
  | 34 => ⟨S4x1x1024x1024x4, .i32⟩
  | 35 => ⟨S4x1x1024x1024x12, .f32⟩
  | 36 => ⟨S4x1x1024x1024, .f32⟩
  | 37 => ⟨S4x1x1024x1024x1, .f32⟩
  | 38 => ⟨S4x1x1024x1024x12, .f32⟩
  | 39 => ⟨S4x1x1024x1024x12, .f32⟩
  | 40 => ⟨S4x1x1024x1024x12, .f32⟩
  | 41 => ⟨S4x1x1024x1024, .f32⟩
  | 42 => ⟨S4x1x1024x1024, .f32⟩
  | 43 => ⟨S_, .i32⟩
  | 44 => ⟨S_, .i32⟩
  | 45 => ⟨S_, .f32⟩
  | 46 => ⟨S4x1x1024x1024, .f32⟩
  | 47 => ⟨S4x1x1024x1024, .f32⟩
  | 48 => ⟨S_, .f32⟩
  | 49 => ⟨S4x1x1024x1024, .f32⟩
  | 50 => ⟨S4x1x1024x1024, .f32⟩
  | 51 => ⟨S4x1x1024x1024, .i32⟩
  | 52 => ⟨S_, .i32⟩
  | 53 => ⟨S_, .i32⟩
  | 54 => ⟨S_, .f32⟩
  | 55 => ⟨S4x1x1024x1024, .f32⟩
  | 56 => ⟨S4x1x1024x1024, .f32⟩
  | 57 => ⟨S_, .f32⟩
  | 58 => ⟨S4x1x1024x1024, .f32⟩
  | 59 => ⟨S4x1x1024x1024, .f32⟩
  | 60 => ⟨S4x1x1024x1024, .i32⟩
  | 61 => ⟨S_, .i32⟩
  | 62 => ⟨S_, .i32⟩
  | 63 => ⟨S_, .f32⟩
  | 64 => ⟨S4x1x1024x1024, .f32⟩
  | 65 => ⟨S4x1x1024x1024, .f32⟩
  | 66 => ⟨S_, .f32⟩
  | 67 => ⟨S4x1x1024x1024, .f32⟩
  | 68 => ⟨S4x1x1024x1024, .f32⟩
  | 69 => ⟨S4x1x1024x1024, .i32⟩
  | 70 => ⟨S_, .f32⟩
  | 71 => ⟨S4x1x1024x1024, .f32⟩
  | 72 => ⟨S4x1x1024x1024, .i1⟩
  | 73 => ⟨S_, .f32⟩
  | 74 => ⟨S4x1x1024x1024, .f32⟩
  | 75 => ⟨S4x1x1024x1024, .i1⟩
  | 76 => ⟨S4x1x1024x1024, .i1⟩
  | 77 => ⟨S_, .f32⟩
  | 78 => ⟨S4x1x1024x1024, .f32⟩
  | 79 => ⟨S4x1x1024x1024, .i1⟩
  | 80 => ⟨S4x1x1024x1024, .i1⟩
  | 81 => ⟨S_, .f32⟩
  | 82 => ⟨S4x1x1024x1024, .f32⟩
  | 83 => ⟨S4x1x1024x1024, .i1⟩
  | 84 => ⟨S4x1x1024x1024, .i1⟩
  | 85 => ⟨S_, .f32⟩
  | 86 => ⟨S4x1x1024x1024, .f32⟩
  | 87 => ⟨S4x1x1024x1024, .i1⟩
  | 88 => ⟨S4x1x1024x1024, .i1⟩
  | 89 => ⟨S_, .f32⟩
  | 90 => ⟨S4x1x1024x1024, .f32⟩
  | 91 => ⟨S4x1x1024x1024, .i1⟩
  | 92 => ⟨S4x1x1024x1024, .i1⟩
  | 93 => ⟨S4x1x1024x1024, .f32⟩
  | 94 => ⟨S_, .i32⟩
  | 95 => ⟨S4x1x1024x1024, .i32⟩
  | 96 => ⟨S4x1x1024x1024, .i1⟩
  | 97 => ⟨S_, .i32⟩
  | 98 => ⟨S4x1x1024x1024, .i32⟩
  | 99 => ⟨S4x1x1024x1024, .i32⟩
  | 100 => ⟨S4x1x1024x1024, .i32⟩
  | 101 => ⟨S_, .i32⟩
  | 102 => ⟨S4x1x1024x1024, .i32⟩
  | 103 => ⟨S4x1x1024x1024, .i1⟩
  | 104 => ⟨S_, .i32⟩
  | 105 => ⟨S4x1x1024x1024, .i32⟩
  | 106 => ⟨S4x1x1024x1024, .i32⟩
  | 107 => ⟨S4x1x1024x1024, .i32⟩
  | 108 => ⟨S_, .i32⟩
  | 109 => ⟨S4x1x1024x1024, .i32⟩
  | 110 => ⟨S4x1x1024x1024, .i1⟩
  | 111 => ⟨S_, .i32⟩
  | 112 => ⟨S4x1x1024x1024, .i32⟩
  | 113 => ⟨S4x1x1024x1024, .i32⟩
  | 114 => ⟨S4x1x1024x1024, .i32⟩
  | 115 => ⟨S_, .i32⟩
  | 116 => ⟨S4x1x1024x1024, .i32⟩
  | 117 => ⟨S4x1x1024x1024, .i1⟩
  | 118 => ⟨S_, .i32⟩
  | 119 => ⟨S4x1x1024x1024, .i32⟩
  | 120 => ⟨S4x1x1024x1024, .i32⟩
  | 121 => ⟨S4x1x1024x1024, .i32⟩
  | 122 => ⟨S4x1x1024x1024x1, .i32⟩
  | 123 => ⟨S4x1x1024x1024x1, .i32⟩
  | 124 => ⟨S4x1x1024x1024x1, .i32⟩
  | 125 => ⟨S4x1x1024x1024x1, .i32⟩
  | 126 => ⟨S4x1x1024x1024x4, .i32⟩
  | 127 => ⟨S4x1x1024x1024x12, .f32⟩
  | _ => ⟨S4x12x8x16x16, .f32⟩

abbrev hbmTy0_5 (i : Nat) : BufTy := match i % 128 with
  | 0 => ⟨S4x1x1024x1024, .f32⟩
  | 1 => ⟨S4x1x1024x1024x1, .f32⟩
  | 2 => ⟨S4x1x1024x1024x12, .f32⟩
  | 3 => ⟨S4x1x1024x1024x12, .f32⟩
  | 4 => ⟨S4x1x1024x1024x12, .f32⟩
  | 5 => ⟨S4x1x1024x1024, .f32⟩
  | 6 => ⟨S4x1x1024x1024, .f32⟩
  | 7 => ⟨S_, .i32⟩
  | 8 => ⟨S_, .i32⟩
  | 9 => ⟨S_, .f32⟩
  | 10 => ⟨S4x1x1024x1024, .f32⟩
  | 11 => ⟨S4x1x1024x1024, .f32⟩
  | 12 => ⟨S_, .f32⟩
  | 13 => ⟨S4x1x1024x1024, .f32⟩
  | 14 => ⟨S4x1x1024x1024, .f32⟩
  | 15 => ⟨S4x1x1024x1024, .i32⟩
  | 16 => ⟨S_, .i32⟩
  | 17 => ⟨S_, .i32⟩
  | 18 => ⟨S_, .f32⟩
  | 19 => ⟨S4x1x1024x1024, .f32⟩
  | 20 => ⟨S4x1x1024x1024, .f32⟩
  | 21 => ⟨S_, .f32⟩
  | 22 => ⟨S4x1x1024x1024, .f32⟩
  | 23 => ⟨S4x1x1024x1024, .f32⟩
  | 24 => ⟨S4x1x1024x1024, .i32⟩
  | 25 => ⟨S_, .i32⟩
  | 26 => ⟨S_, .i32⟩
  | 27 => ⟨S_, .f32⟩
  | 28 => ⟨S4x1x1024x1024, .f32⟩
  | 29 => ⟨S4x1x1024x1024, .f32⟩
  | 30 => ⟨S_, .f32⟩
  | 31 => ⟨S4x1x1024x1024, .f32⟩
  | 32 => ⟨S4x1x1024x1024, .f32⟩
  | 33 => ⟨S4x1x1024x1024, .i32⟩
  | 34 => ⟨S_, .f32⟩
  | 35 => ⟨S4x1x1024x1024, .f32⟩
  | 36 => ⟨S4x1x1024x1024, .i1⟩
  | 37 => ⟨S_, .f32⟩
  | 38 => ⟨S4x1x1024x1024, .f32⟩
  | 39 => ⟨S4x1x1024x1024, .i1⟩
  | 40 => ⟨S4x1x1024x1024, .i1⟩
  | 41 => ⟨S_, .f32⟩
  | 42 => ⟨S4x1x1024x1024, .f32⟩
  | 43 => ⟨S4x1x1024x1024, .i1⟩
  | 44 => ⟨S4x1x1024x1024, .i1⟩
  | 45 => ⟨S_, .f32⟩
  | 46 => ⟨S4x1x1024x1024, .f32⟩
  | 47 => ⟨S4x1x1024x1024, .i1⟩
  | 48 => ⟨S4x1x1024x1024, .i1⟩
  | 49 => ⟨S_, .f32⟩
  | 50 => ⟨S4x1x1024x1024, .f32⟩
  | 51 => ⟨S4x1x1024x1024, .i1⟩
  | 52 => ⟨S4x1x1024x1024, .i1⟩
  | 53 => ⟨S_, .f32⟩
  | 54 => ⟨S4x1x1024x1024, .f32⟩
  | 55 => ⟨S4x1x1024x1024, .i1⟩
  | 56 => ⟨S4x1x1024x1024, .i1⟩
  | 57 => ⟨S4x1x1024x1024, .f32⟩
  | 58 => ⟨S_, .i32⟩
  | 59 => ⟨S4x1x1024x1024, .i32⟩
  | 60 => ⟨S4x1x1024x1024, .i1⟩
  | 61 => ⟨S_, .i32⟩
  | 62 => ⟨S4x1x1024x1024, .i32⟩
  | 63 => ⟨S4x1x1024x1024, .i32⟩
  | 64 => ⟨S4x1x1024x1024, .i32⟩
  | 65 => ⟨S_, .i32⟩
  | 66 => ⟨S4x1x1024x1024, .i32⟩
  | 67 => ⟨S4x1x1024x1024, .i1⟩
  | 68 => ⟨S_, .i32⟩
  | 69 => ⟨S4x1x1024x1024, .i32⟩
  | 70 => ⟨S4x1x1024x1024, .i32⟩
  | 71 => ⟨S4x1x1024x1024, .i32⟩
  | 72 => ⟨S_, .i32⟩
  | 73 => ⟨S4x1x1024x1024, .i32⟩
  | 74 => ⟨S4x1x1024x1024, .i1⟩
  | 75 => ⟨S_, .i32⟩
  | 76 => ⟨S4x1x1024x1024, .i32⟩
  | 77 => ⟨S4x1x1024x1024, .i32⟩
  | 78 => ⟨S4x1x1024x1024, .i32⟩
  | 79 => ⟨S_, .i32⟩
  | 80 => ⟨S4x1x1024x1024, .i32⟩
  | 81 => ⟨S4x1x1024x1024, .i1⟩
  | 82 => ⟨S_, .i32⟩
  | 83 => ⟨S4x1x1024x1024, .i32⟩
  | 84 => ⟨S4x1x1024x1024, .i32⟩
  | 85 => ⟨S4x1x1024x1024, .i32⟩
  | 86 => ⟨S4x1x1024x1024x1, .i32⟩
  | 87 => ⟨S4x1x1024x1024x1, .i32⟩
  | 88 => ⟨S4x1x1024x1024x1, .i32⟩
  | 89 => ⟨S4x1x1024x1024x1, .i32⟩
  | 90 => ⟨S4x1x1024x1024x4, .i32⟩
  | 91 => ⟨S4x1x1024x1024x12, .f32⟩
  | 92 => ⟨S4x1x1024x1024, .f32⟩
  | 93 => ⟨S4x1x1024x1024x1, .f32⟩
  | 94 => ⟨S4x1x1024x1024x12, .f32⟩
  | 95 => ⟨S4x1x1024x1024x12, .f32⟩
  | 96 => ⟨S4x1x1024x1024x12, .f32⟩
  | 97 => ⟨S4x1x1024x1024, .f32⟩
  | 98 => ⟨S4x1x1024x1024, .f32⟩
  | 99 => ⟨S_, .i32⟩
  | 100 => ⟨S_, .i32⟩
  | 101 => ⟨S_, .f32⟩
  | 102 => ⟨S4x1x1024x1024, .f32⟩
  | 103 => ⟨S4x1x1024x1024, .f32⟩
  | 104 => ⟨S_, .f32⟩
  | 105 => ⟨S4x1x1024x1024, .f32⟩
  | 106 => ⟨S4x1x1024x1024, .f32⟩
  | 107 => ⟨S4x1x1024x1024, .i32⟩
  | 108 => ⟨S_, .i32⟩
  | 109 => ⟨S_, .i32⟩
  | 110 => ⟨S_, .f32⟩
  | 111 => ⟨S4x1x1024x1024, .f32⟩
  | 112 => ⟨S4x1x1024x1024, .f32⟩
  | 113 => ⟨S_, .f32⟩
  | 114 => ⟨S4x1x1024x1024, .f32⟩
  | 115 => ⟨S4x1x1024x1024, .f32⟩
  | 116 => ⟨S4x1x1024x1024, .i32⟩
  | 117 => ⟨S_, .i32⟩
  | 118 => ⟨S_, .i32⟩
  | 119 => ⟨S_, .f32⟩
  | 120 => ⟨S4x1x1024x1024, .f32⟩
  | 121 => ⟨S4x1x1024x1024, .f32⟩
  | 122 => ⟨S_, .f32⟩
  | 123 => ⟨S4x1x1024x1024, .f32⟩
  | 124 => ⟨S4x1x1024x1024, .f32⟩
  | 125 => ⟨S4x1x1024x1024, .i32⟩
  | 126 => ⟨S_, .f32⟩
  | 127 => ⟨S4x1x1024x1024, .f32⟩
  | _ => ⟨S4x12x8x16x16, .f32⟩

abbrev hbmTy0_6 (i : Nat) : BufTy := match i % 128 with
  | 0 => ⟨S4x1x1024x1024, .i1⟩
  | 1 => ⟨S_, .f32⟩
  | 2 => ⟨S4x1x1024x1024, .f32⟩
  | 3 => ⟨S4x1x1024x1024, .i1⟩
  | 4 => ⟨S4x1x1024x1024, .i1⟩
  | 5 => ⟨S_, .f32⟩
  | 6 => ⟨S4x1x1024x1024, .f32⟩
  | 7 => ⟨S4x1x1024x1024, .i1⟩
  | 8 => ⟨S4x1x1024x1024, .i1⟩
  | 9 => ⟨S_, .f32⟩
  | 10 => ⟨S4x1x1024x1024, .f32⟩
  | 11 => ⟨S4x1x1024x1024, .i1⟩
  | 12 => ⟨S4x1x1024x1024, .i1⟩
  | 13 => ⟨S_, .f32⟩
  | 14 => ⟨S4x1x1024x1024, .f32⟩
  | 15 => ⟨S4x1x1024x1024, .i1⟩
  | 16 => ⟨S4x1x1024x1024, .i1⟩
  | 17 => ⟨S_, .f32⟩
  | 18 => ⟨S4x1x1024x1024, .f32⟩
  | 19 => ⟨S4x1x1024x1024, .i1⟩
  | 20 => ⟨S4x1x1024x1024, .i1⟩
  | 21 => ⟨S4x1x1024x1024, .f32⟩
  | 22 => ⟨S_, .i32⟩
  | 23 => ⟨S4x1x1024x1024, .i32⟩
  | 24 => ⟨S4x1x1024x1024, .i1⟩
  | 25 => ⟨S_, .i32⟩
  | 26 => ⟨S4x1x1024x1024, .i32⟩
  | 27 => ⟨S4x1x1024x1024, .i32⟩
  | 28 => ⟨S4x1x1024x1024, .i32⟩
  | 29 => ⟨S_, .i32⟩
  | 30 => ⟨S4x1x1024x1024, .i32⟩
  | 31 => ⟨S4x1x1024x1024, .i1⟩
  | 32 => ⟨S_, .i32⟩
  | 33 => ⟨S4x1x1024x1024, .i32⟩
  | 34 => ⟨S4x1x1024x1024, .i32⟩
  | 35 => ⟨S4x1x1024x1024, .i32⟩
  | 36 => ⟨S_, .i32⟩
  | 37 => ⟨S4x1x1024x1024, .i32⟩
  | 38 => ⟨S4x1x1024x1024, .i1⟩
  | 39 => ⟨S_, .i32⟩
  | 40 => ⟨S4x1x1024x1024, .i32⟩
  | 41 => ⟨S4x1x1024x1024, .i32⟩
  | 42 => ⟨S4x1x1024x1024, .i32⟩
  | 43 => ⟨S_, .i32⟩
  | 44 => ⟨S4x1x1024x1024, .i32⟩
  | 45 => ⟨S4x1x1024x1024, .i1⟩
  | 46 => ⟨S_, .i32⟩
  | 47 => ⟨S4x1x1024x1024, .i32⟩
  | 48 => ⟨S4x1x1024x1024, .i32⟩
  | 49 => ⟨S4x1x1024x1024, .i32⟩
  | 50 => ⟨S4x1x1024x1024x1, .i32⟩
  | 51 => ⟨S4x1x1024x1024x1, .i32⟩
  | 52 => ⟨S4x1x1024x1024x1, .i32⟩
  | 53 => ⟨S4x1x1024x1024x1, .i32⟩
  | 54 => ⟨S4x1x1024x1024x4, .i32⟩
  | 55 => ⟨S4x1x1024x1024x12, .f32⟩
  | 56 => ⟨S4x1x1024x1024, .f32⟩
  | 57 => ⟨S4x1x1024x1024x1, .f32⟩
  | 58 => ⟨S4x1x1024x1024x12, .f32⟩
  | 59 => ⟨S4x1x1024x1024x12, .f32⟩
  | 60 => ⟨S4x1x1024x1024x12, .f32⟩
  | 61 => ⟨S4x12x1x1024x1024, .f32⟩
  | 62 => ⟨S4x12x1024x1024, .f32⟩
  | _ => ⟨S4x12x8x16x16, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | _ => ⟨S4x12x8x16x16, .f32⟩

abbrev bufTy : (tb : Table) → Fin (tcTables nBuf tb) → BufTy
  | .hbm, ⟨i, _⟩ => hbmTy i
  | _, _ => ⟨S4x12x8x16x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_2 : Ref sig .tc := ⟨.hbm, 13, rfl⟩
abbrev main_v8 : Ref sig .tc := ⟨.hbm, 14, rfl⟩
abbrev main_v9 : Ref sig .tc := ⟨.hbm, 15, rfl⟩
abbrev main_cst_3 : Ref sig .tc := ⟨.hbm, 16, rfl⟩
abbrev main_v10 : Ref sig .tc := ⟨.hbm, 17, rfl⟩
abbrev main_v11 : Ref sig .tc := ⟨.hbm, 18, rfl⟩
abbrev main_cst_4 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_cst_5 : Ref sig .tc := ⟨.hbm, 39, rfl⟩
abbrev main_v31 : Ref sig .tc := ⟨.hbm, 40, rfl⟩
abbrev main_v32 : Ref sig .tc := ⟨.hbm, 41, rfl⟩
abbrev main_cst_6 : Ref sig .tc := ⟨.hbm, 42, rfl⟩
abbrev main_v33 : Ref sig .tc := ⟨.hbm, 43, rfl⟩
abbrev main_v34 : Ref sig .tc := ⟨.hbm, 44, rfl⟩
abbrev main_cst_7 : Ref sig .tc := ⟨.hbm, 45, rfl⟩
abbrev main_v35 : Ref sig .tc := ⟨.hbm, 46, rfl⟩
abbrev main_v36 : Ref sig .tc := ⟨.hbm, 47, rfl⟩
abbrev main_cst_8 : Ref sig .tc := ⟨.hbm, 48, rfl⟩
abbrev main_v37 : Ref sig .tc := ⟨.hbm, 49, rfl⟩
abbrev main_v38 : Ref sig .tc := ⟨.hbm, 50, rfl⟩
abbrev main_cst_9 : Ref sig .tc := ⟨.hbm, 51, rfl⟩
abbrev main_v39 : Ref sig .tc := ⟨.hbm, 52, rfl⟩
abbrev main_v40 : Ref sig .tc := ⟨.hbm, 53, rfl⟩
abbrev main_cst_10 : Ref sig .tc := ⟨.hbm, 54, rfl⟩
abbrev main_v41 : Ref sig .tc := ⟨.hbm, 55, rfl⟩
abbrev main_v42 : Ref sig .tc := ⟨.hbm, 56, rfl⟩
abbrev main_cst_11 : Ref sig .tc := ⟨.hbm, 57, rfl⟩
abbrev main_v43 : Ref sig .tc := ⟨.hbm, 58, rfl⟩
abbrev main_v44 : Ref sig .tc := ⟨.hbm, 59, rfl⟩
abbrev main_cst_12 : Ref sig .tc := ⟨.hbm, 60, rfl⟩
abbrev main_v45 : Ref sig .tc := ⟨.hbm, 61, rfl⟩
abbrev main_v46 : Ref sig .tc := ⟨.hbm, 62, rfl⟩
abbrev main_cst_13 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_cst_14 : Ref sig .tc := ⟨.hbm, 69, rfl⟩
abbrev main_v52 : Ref sig .tc := ⟨.hbm, 70, rfl⟩
abbrev main_v53 : Ref sig .tc := ⟨.hbm, 71, rfl⟩
abbrev main_cst_15 : Ref sig .tc := ⟨.hbm, 72, rfl⟩
abbrev main_v54 : Ref sig .tc := ⟨.hbm, 73, rfl⟩
abbrev main_v55 : Ref sig .tc := ⟨.hbm, 74, rfl⟩
abbrev main_cst_16 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_cst_17 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_cst_18 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_cst_19 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_c : Ref sig .tc := ⟨.hbm, 96, rfl⟩
abbrev main_c_20 : Ref sig .tc := ⟨.hbm, 97, rfl⟩
abbrev main_call0_v0 : Ref sig .tc := ⟨.hbm, 98, rfl⟩
abbrev main_call0_v1 : Ref sig .tc := ⟨.hbm, 99, rfl⟩
abbrev main_call0_v2 : Ref sig .tc := ⟨.hbm, 100, rfl⟩
abbrev main_call0_v3 : Ref sig .tc := ⟨.hbm, 101, rfl⟩
abbrev main_call0_v4 : Ref sig .tc := ⟨.hbm, 102, rfl⟩
abbrev main_v73 : Ref sig .tc := ⟨.hbm, 103, rfl⟩
abbrev main_v74 : Ref sig .tc := ⟨.hbm, 104, rfl⟩
abbrev main_c_21 : Ref sig .tc := ⟨.hbm, 105, rfl⟩
abbrev main_c_22 : Ref sig .tc := ⟨.hbm, 106, rfl⟩
abbrev main_call1_v0 : Ref sig .tc := ⟨.hbm, 107, rfl⟩
abbrev main_call1_v1 : Ref sig .tc := ⟨.hbm, 108, rfl⟩
abbrev main_call1_v2 : Ref sig .tc := ⟨.hbm, 109, rfl⟩
abbrev main_call1_v3 : Ref sig .tc := ⟨.hbm, 110, rfl⟩
abbrev main_call1_v4 : Ref sig .tc := ⟨.hbm, 111, rfl⟩
abbrev main_v75 : Ref sig .tc := ⟨.hbm, 112, rfl⟩
abbrev main_v76 : Ref sig .tc := ⟨.hbm, 113, rfl⟩
abbrev main_c_23 : Ref sig .tc := ⟨.hbm, 114, rfl⟩
abbrev main_c_24 : Ref sig .tc := ⟨.hbm, 115, rfl⟩
abbrev main_call2_v0 : Ref sig .tc := ⟨.hbm, 116, rfl⟩
abbrev main_call2_v1 : Ref sig .tc := ⟨.hbm, 117, rfl⟩
abbrev main_call2_v2 : Ref sig .tc := ⟨.hbm, 118, rfl⟩
abbrev main_call2_v3 : Ref sig .tc := ⟨.hbm, 119, rfl⟩
abbrev main_call2_v4 : Ref sig .tc := ⟨.hbm, 120, rfl⟩
abbrev main_v77 : Ref sig .tc := ⟨.hbm, 121, rfl⟩
abbrev main_v78 : Ref sig .tc := ⟨.hbm, 122, rfl⟩
abbrev main_cst_25 : Ref sig .tc := ⟨.hbm, 123, rfl⟩
abbrev main_v79 : Ref sig .tc := ⟨.hbm, 124, rfl⟩
abbrev main_v80 : Ref sig .tc := ⟨.hbm, 125, rfl⟩
abbrev main_cst_26 : Ref sig .tc := ⟨.hbm, 126, rfl⟩
abbrev main_v81 : Ref sig .tc := ⟨.hbm, 127, rfl⟩
abbrev main_v82 : Ref sig .tc := ⟨.hbm, 128, rfl⟩
abbrev main_v83 : Ref sig .tc := ⟨.hbm, 129, rfl⟩
abbrev main_cst_27 : Ref sig .tc := ⟨.hbm, 130, rfl⟩
abbrev main_v84 : Ref sig .tc := ⟨.hbm, 131, rfl⟩
abbrev main_v85 : Ref sig .tc := ⟨.hbm, 132, rfl⟩
abbrev main_v86 : Ref sig .tc := ⟨.hbm, 133, rfl⟩
abbrev main_cst_28 : Ref sig .tc := ⟨.hbm, 134, rfl⟩
abbrev main_v87 : Ref sig .tc := ⟨.hbm, 135, rfl⟩
abbrev main_v88 : Ref sig .tc := ⟨.hbm, 136, rfl⟩
abbrev main_v89 : Ref sig .tc := ⟨.hbm, 137, rfl⟩
abbrev main_cst_29 : Ref sig .tc := ⟨.hbm, 138, rfl⟩
abbrev main_v90 : Ref sig .tc := ⟨.hbm, 139, rfl⟩
abbrev main_v91 : Ref sig .tc := ⟨.hbm, 140, rfl⟩
abbrev main_v92 : Ref sig .tc := ⟨.hbm, 141, rfl⟩
abbrev main_cst_30 : Ref sig .tc := ⟨.hbm, 142, rfl⟩
abbrev main_v93 : Ref sig .tc := ⟨.hbm, 143, rfl⟩
abbrev main_v94 : Ref sig .tc := ⟨.hbm, 144, rfl⟩
abbrev main_v95 : Ref sig .tc := ⟨.hbm, 145, rfl⟩
abbrev main_v96 : Ref sig .tc := ⟨.hbm, 146, rfl⟩
abbrev main_c_31 : Ref sig .tc := ⟨.hbm, 147, rfl⟩
abbrev main_v97 : Ref sig .tc := ⟨.hbm, 148, rfl⟩
abbrev main_v98 : Ref sig .tc := ⟨.hbm, 149, rfl⟩
abbrev main_c_32 : Ref sig .tc := ⟨.hbm, 150, rfl⟩
abbrev main_v99 : Ref sig .tc := ⟨.hbm, 151, rfl⟩
abbrev main_v100 : Ref sig .tc := ⟨.hbm, 152, rfl⟩
abbrev main_v101 : Ref sig .tc := ⟨.hbm, 153, rfl⟩
abbrev main_c_33 : Ref sig .tc := ⟨.hbm, 154, rfl⟩
abbrev main_v102 : Ref sig .tc := ⟨.hbm, 155, rfl⟩
abbrev main_v103 : Ref sig .tc := ⟨.hbm, 156, rfl⟩
abbrev main_c_34 : Ref sig .tc := ⟨.hbm, 157, rfl⟩
abbrev main_v104 : Ref sig .tc := ⟨.hbm, 158, rfl⟩
abbrev main_v105 : Ref sig .tc := ⟨.hbm, 159, rfl⟩
abbrev main_v106 : Ref sig .tc := ⟨.hbm, 160, rfl⟩
abbrev main_c_35 : Ref sig .tc := ⟨.hbm, 161, rfl⟩
abbrev main_v107 : Ref sig .tc := ⟨.hbm, 162, rfl⟩
abbrev main_v108 : Ref sig .tc := ⟨.hbm, 163, rfl⟩
abbrev main_c_36 : Ref sig .tc := ⟨.hbm, 164, rfl⟩
abbrev main_v109 : Ref sig .tc := ⟨.hbm, 165, rfl⟩
abbrev main_v110 : Ref sig .tc := ⟨.hbm, 166, rfl⟩
abbrev main_v111 : Ref sig .tc := ⟨.hbm, 167, rfl⟩
abbrev main_c_37 : Ref sig .tc := ⟨.hbm, 168, rfl⟩
abbrev main_v112 : Ref sig .tc := ⟨.hbm, 169, rfl⟩
abbrev main_v113 : Ref sig .tc := ⟨.hbm, 170, rfl⟩
abbrev main_c_38 : Ref sig .tc := ⟨.hbm, 171, rfl⟩
abbrev main_v114 : Ref sig .tc := ⟨.hbm, 172, rfl⟩
abbrev main_v115 : Ref sig .tc := ⟨.hbm, 173, rfl⟩
abbrev main_v116 : Ref sig .tc := ⟨.hbm, 174, rfl⟩
abbrev main_v117 : Ref sig .tc := ⟨.hbm, 175, rfl⟩
abbrev main_v118 : Ref sig .tc := ⟨.hbm, 176, rfl⟩
abbrev main_v119 : Ref sig .tc := ⟨.hbm, 177, rfl⟩
abbrev main_v120 : Ref sig .tc := ⟨.hbm, 178, rfl⟩
abbrev main_v121 : Ref sig .tc := ⟨.hbm, 179, rfl⟩
abbrev main_v122 : Ref sig .tc := ⟨.hbm, 180, rfl⟩
abbrev main_v123 : Ref sig .tc := ⟨.hbm, 181, rfl⟩
abbrev main_v124 : Ref sig .tc := ⟨.hbm, 182, rfl⟩
abbrev main_v125 : Ref sig .tc := ⟨.hbm, 183, rfl⟩
abbrev main_v126 : Ref sig .tc := ⟨.hbm, 184, rfl⟩
abbrev main_v127 : Ref sig .tc := ⟨.hbm, 185, rfl⟩
abbrev main_v128 : Ref sig .tc := ⟨.hbm, 186, rfl⟩
abbrev main_c_39 : Ref sig .tc := ⟨.hbm, 187, rfl⟩
abbrev main_c_40 : Ref sig .tc := ⟨.hbm, 188, rfl⟩
abbrev main_call3_v0 : Ref sig .tc := ⟨.hbm, 189, rfl⟩
abbrev main_call3_v1 : Ref sig .tc := ⟨.hbm, 190, rfl⟩
abbrev main_call3_v2 : Ref sig .tc := ⟨.hbm, 191, rfl⟩
abbrev main_call3_v3 : Ref sig .tc := ⟨.hbm, 192, rfl⟩
abbrev main_call3_v4 : Ref sig .tc := ⟨.hbm, 193, rfl⟩
abbrev main_v129 : Ref sig .tc := ⟨.hbm, 194, rfl⟩
abbrev main_v130 : Ref sig .tc := ⟨.hbm, 195, rfl⟩
abbrev main_c_41 : Ref sig .tc := ⟨.hbm, 196, rfl⟩
abbrev main_c_42 : Ref sig .tc := ⟨.hbm, 197, rfl⟩
abbrev main_call4_v0 : Ref sig .tc := ⟨.hbm, 198, rfl⟩
abbrev main_call4_v1 : Ref sig .tc := ⟨.hbm, 199, rfl⟩
abbrev main_call4_v2 : Ref sig .tc := ⟨.hbm, 200, rfl⟩
abbrev main_call4_v3 : Ref sig .tc := ⟨.hbm, 201, rfl⟩
abbrev main_call4_v4 : Ref sig .tc := ⟨.hbm, 202, rfl⟩
abbrev main_v131 : Ref sig .tc := ⟨.hbm, 203, rfl⟩
abbrev main_v132 : Ref sig .tc := ⟨.hbm, 204, rfl⟩
abbrev main_c_43 : Ref sig .tc := ⟨.hbm, 205, rfl⟩
abbrev main_c_44 : Ref sig .tc := ⟨.hbm, 206, rfl⟩
abbrev main_call5_v0 : Ref sig .tc := ⟨.hbm, 207, rfl⟩
abbrev main_call5_v1 : Ref sig .tc := ⟨.hbm, 208, rfl⟩
abbrev main_call5_v2 : Ref sig .tc := ⟨.hbm, 209, rfl⟩
abbrev main_call5_v3 : Ref sig .tc := ⟨.hbm, 210, rfl⟩
abbrev main_call5_v4 : Ref sig .tc := ⟨.hbm, 211, rfl⟩
abbrev main_v133 : Ref sig .tc := ⟨.hbm, 212, rfl⟩
abbrev main_v134 : Ref sig .tc := ⟨.hbm, 213, rfl⟩
abbrev main_cst_45 : Ref sig .tc := ⟨.hbm, 214, rfl⟩
abbrev main_v135 : Ref sig .tc := ⟨.hbm, 215, rfl⟩
abbrev main_v136 : Ref sig .tc := ⟨.hbm, 216, rfl⟩
abbrev main_cst_46 : Ref sig .tc := ⟨.hbm, 217, rfl⟩
abbrev main_v137 : Ref sig .tc := ⟨.hbm, 218, rfl⟩
abbrev main_v138 : Ref sig .tc := ⟨.hbm, 219, rfl⟩
abbrev main_v139 : Ref sig .tc := ⟨.hbm, 220, rfl⟩
abbrev main_cst_47 : Ref sig .tc := ⟨.hbm, 221, rfl⟩
abbrev main_v140 : Ref sig .tc := ⟨.hbm, 222, rfl⟩
abbrev main_v141 : Ref sig .tc := ⟨.hbm, 223, rfl⟩
abbrev main_v142 : Ref sig .tc := ⟨.hbm, 224, rfl⟩
abbrev main_cst_48 : Ref sig .tc := ⟨.hbm, 225, rfl⟩
abbrev main_v143 : Ref sig .tc := ⟨.hbm, 226, rfl⟩
abbrev main_v144 : Ref sig .tc := ⟨.hbm, 227, rfl⟩
abbrev main_v145 : Ref sig .tc := ⟨.hbm, 228, rfl⟩
abbrev main_cst_49 : Ref sig .tc := ⟨.hbm, 229, rfl⟩
abbrev main_v146 : Ref sig .tc := ⟨.hbm, 230, rfl⟩
abbrev main_v147 : Ref sig .tc := ⟨.hbm, 231, rfl⟩
abbrev main_v148 : Ref sig .tc := ⟨.hbm, 232, rfl⟩
abbrev main_cst_50 : Ref sig .tc := ⟨.hbm, 233, rfl⟩
abbrev main_v149 : Ref sig .tc := ⟨.hbm, 234, rfl⟩
abbrev main_v150 : Ref sig .tc := ⟨.hbm, 235, rfl⟩
abbrev main_v151 : Ref sig .tc := ⟨.hbm, 236, rfl⟩
abbrev main_v152 : Ref sig .tc := ⟨.hbm, 237, rfl⟩
abbrev main_c_51 : Ref sig .tc := ⟨.hbm, 238, rfl⟩
abbrev main_v153 : Ref sig .tc := ⟨.hbm, 239, rfl⟩
abbrev main_v154 : Ref sig .tc := ⟨.hbm, 240, rfl⟩
abbrev main_c_52 : Ref sig .tc := ⟨.hbm, 241, rfl⟩
abbrev main_v155 : Ref sig .tc := ⟨.hbm, 242, rfl⟩
abbrev main_v156 : Ref sig .tc := ⟨.hbm, 243, rfl⟩
abbrev main_v157 : Ref sig .tc := ⟨.hbm, 244, rfl⟩
abbrev main_c_53 : Ref sig .tc := ⟨.hbm, 245, rfl⟩
abbrev main_v158 : Ref sig .tc := ⟨.hbm, 246, rfl⟩
abbrev main_v159 : Ref sig .tc := ⟨.hbm, 247, rfl⟩
abbrev main_c_54 : Ref sig .tc := ⟨.hbm, 248, rfl⟩
abbrev main_v160 : Ref sig .tc := ⟨.hbm, 249, rfl⟩
abbrev main_v161 : Ref sig .tc := ⟨.hbm, 250, rfl⟩
abbrev main_v162 : Ref sig .tc := ⟨.hbm, 251, rfl⟩
abbrev main_c_55 : Ref sig .tc := ⟨.hbm, 252, rfl⟩
abbrev main_v163 : Ref sig .tc := ⟨.hbm, 253, rfl⟩
abbrev main_v164 : Ref sig .tc := ⟨.hbm, 254, rfl⟩
abbrev main_c_56 : Ref sig .tc := ⟨.hbm, 255, rfl⟩
abbrev main_v165 : Ref sig .tc := ⟨.hbm, 256, rfl⟩
abbrev main_v166 : Ref sig .tc := ⟨.hbm, 257, rfl⟩
abbrev main_v167 : Ref sig .tc := ⟨.hbm, 258, rfl⟩
abbrev main_c_57 : Ref sig .tc := ⟨.hbm, 259, rfl⟩
abbrev main_v168 : Ref sig .tc := ⟨.hbm, 260, rfl⟩
abbrev main_v169 : Ref sig .tc := ⟨.hbm, 261, rfl⟩
abbrev main_c_58 : Ref sig .tc := ⟨.hbm, 262, rfl⟩
abbrev main_v170 : Ref sig .tc := ⟨.hbm, 263, rfl⟩
abbrev main_v171 : Ref sig .tc := ⟨.hbm, 264, rfl⟩
abbrev main_v172 : Ref sig .tc := ⟨.hbm, 265, rfl⟩
abbrev main_v173 : Ref sig .tc := ⟨.hbm, 266, rfl⟩
abbrev main_v174 : Ref sig .tc := ⟨.hbm, 267, rfl⟩
abbrev main_v175 : Ref sig .tc := ⟨.hbm, 268, rfl⟩
abbrev main_v176 : Ref sig .tc := ⟨.hbm, 269, rfl⟩
abbrev main_v177 : Ref sig .tc := ⟨.hbm, 270, rfl⟩
abbrev main_v178 : Ref sig .tc := ⟨.hbm, 271, rfl⟩
abbrev main_v179 : Ref sig .tc := ⟨.hbm, 272, rfl⟩
abbrev main_v180 : Ref sig .tc := ⟨.hbm, 273, rfl⟩
abbrev main_v181 : Ref sig .tc := ⟨.hbm, 274, rfl⟩
abbrev main_v182 : Ref sig .tc := ⟨.hbm, 275, rfl⟩
abbrev main_v183 : Ref sig .tc := ⟨.hbm, 276, rfl⟩
abbrev main_v184 : Ref sig .tc := ⟨.hbm, 277, rfl⟩
abbrev main_v185 : Ref sig .tc := ⟨.hbm, 278, rfl⟩
abbrev main_c_59 : Ref sig .tc := ⟨.hbm, 279, rfl⟩
abbrev main_c_60 : Ref sig .tc := ⟨.hbm, 280, rfl⟩
abbrev main_call6_v0 : Ref sig .tc := ⟨.hbm, 281, rfl⟩
abbrev main_call6_v1 : Ref sig .tc := ⟨.hbm, 282, rfl⟩
abbrev main_call6_v2 : Ref sig .tc := ⟨.hbm, 283, rfl⟩
abbrev main_call6_v3 : Ref sig .tc := ⟨.hbm, 284, rfl⟩
abbrev main_call6_v4 : Ref sig .tc := ⟨.hbm, 285, rfl⟩
abbrev main_v186 : Ref sig .tc := ⟨.hbm, 286, rfl⟩
abbrev main_v187 : Ref sig .tc := ⟨.hbm, 287, rfl⟩
abbrev main_c_61 : Ref sig .tc := ⟨.hbm, 288, rfl⟩
abbrev main_c_62 : Ref sig .tc := ⟨.hbm, 289, rfl⟩
abbrev main_call7_v0 : Ref sig .tc := ⟨.hbm, 290, rfl⟩
abbrev main_call7_v1 : Ref sig .tc := ⟨.hbm, 291, rfl⟩
abbrev main_call7_v2 : Ref sig .tc := ⟨.hbm, 292, rfl⟩
abbrev main_call7_v3 : Ref sig .tc := ⟨.hbm, 293, rfl⟩
abbrev main_call7_v4 : Ref sig .tc := ⟨.hbm, 294, rfl⟩
abbrev main_v188 : Ref sig .tc := ⟨.hbm, 295, rfl⟩
abbrev main_v189 : Ref sig .tc := ⟨.hbm, 296, rfl⟩
abbrev main_c_63 : Ref sig .tc := ⟨.hbm, 297, rfl⟩
abbrev main_c_64 : Ref sig .tc := ⟨.hbm, 298, rfl⟩
abbrev main_call8_v0 : Ref sig .tc := ⟨.hbm, 299, rfl⟩
abbrev main_call8_v1 : Ref sig .tc := ⟨.hbm, 300, rfl⟩
abbrev main_call8_v2 : Ref sig .tc := ⟨.hbm, 301, rfl⟩
abbrev main_call8_v3 : Ref sig .tc := ⟨.hbm, 302, rfl⟩
abbrev main_call8_v4 : Ref sig .tc := ⟨.hbm, 303, rfl⟩
abbrev main_v190 : Ref sig .tc := ⟨.hbm, 304, rfl⟩
abbrev main_v191 : Ref sig .tc := ⟨.hbm, 305, rfl⟩
abbrev main_cst_65 : Ref sig .tc := ⟨.hbm, 306, rfl⟩
abbrev main_v192 : Ref sig .tc := ⟨.hbm, 307, rfl⟩
abbrev main_v193 : Ref sig .tc := ⟨.hbm, 308, rfl⟩
abbrev main_cst_66 : Ref sig .tc := ⟨.hbm, 309, rfl⟩
abbrev main_v194 : Ref sig .tc := ⟨.hbm, 310, rfl⟩
abbrev main_v195 : Ref sig .tc := ⟨.hbm, 311, rfl⟩
abbrev main_v196 : Ref sig .tc := ⟨.hbm, 312, rfl⟩
abbrev main_cst_67 : Ref sig .tc := ⟨.hbm, 313, rfl⟩
abbrev main_v197 : Ref sig .tc := ⟨.hbm, 314, rfl⟩
abbrev main_v198 : Ref sig .tc := ⟨.hbm, 315, rfl⟩
abbrev main_v199 : Ref sig .tc := ⟨.hbm, 316, rfl⟩
abbrev main_cst_68 : Ref sig .tc := ⟨.hbm, 317, rfl⟩
abbrev main_v200 : Ref sig .tc := ⟨.hbm, 318, rfl⟩
abbrev main_v201 : Ref sig .tc := ⟨.hbm, 319, rfl⟩
abbrev main_v202 : Ref sig .tc := ⟨.hbm, 320, rfl⟩
abbrev main_cst_69 : Ref sig .tc := ⟨.hbm, 321, rfl⟩
abbrev main_v203 : Ref sig .tc := ⟨.hbm, 322, rfl⟩
abbrev main_v204 : Ref sig .tc := ⟨.hbm, 323, rfl⟩
abbrev main_v205 : Ref sig .tc := ⟨.hbm, 324, rfl⟩
abbrev main_cst_70 : Ref sig .tc := ⟨.hbm, 325, rfl⟩
abbrev main_v206 : Ref sig .tc := ⟨.hbm, 326, rfl⟩
abbrev main_v207 : Ref sig .tc := ⟨.hbm, 327, rfl⟩
abbrev main_v208 : Ref sig .tc := ⟨.hbm, 328, rfl⟩
abbrev main_v209 : Ref sig .tc := ⟨.hbm, 329, rfl⟩
abbrev main_c_71 : Ref sig .tc := ⟨.hbm, 330, rfl⟩
abbrev main_v210 : Ref sig .tc := ⟨.hbm, 331, rfl⟩
abbrev main_v211 : Ref sig .tc := ⟨.hbm, 332, rfl⟩
abbrev main_c_72 : Ref sig .tc := ⟨.hbm, 333, rfl⟩
abbrev main_v212 : Ref sig .tc := ⟨.hbm, 334, rfl⟩
abbrev main_v213 : Ref sig .tc := ⟨.hbm, 335, rfl⟩
abbrev main_v214 : Ref sig .tc := ⟨.hbm, 336, rfl⟩
abbrev main_c_73 : Ref sig .tc := ⟨.hbm, 337, rfl⟩
abbrev main_v215 : Ref sig .tc := ⟨.hbm, 338, rfl⟩
abbrev main_v216 : Ref sig .tc := ⟨.hbm, 339, rfl⟩
abbrev main_c_74 : Ref sig .tc := ⟨.hbm, 340, rfl⟩
abbrev main_v217 : Ref sig .tc := ⟨.hbm, 341, rfl⟩
abbrev main_v218 : Ref sig .tc := ⟨.hbm, 342, rfl⟩
abbrev main_v219 : Ref sig .tc := ⟨.hbm, 343, rfl⟩
abbrev main_c_75 : Ref sig .tc := ⟨.hbm, 344, rfl⟩
abbrev main_v220 : Ref sig .tc := ⟨.hbm, 345, rfl⟩
abbrev main_v221 : Ref sig .tc := ⟨.hbm, 346, rfl⟩
abbrev main_c_76 : Ref sig .tc := ⟨.hbm, 347, rfl⟩
abbrev main_v222 : Ref sig .tc := ⟨.hbm, 348, rfl⟩
abbrev main_v223 : Ref sig .tc := ⟨.hbm, 349, rfl⟩
abbrev main_v224 : Ref sig .tc := ⟨.hbm, 350, rfl⟩
abbrev main_c_77 : Ref sig .tc := ⟨.hbm, 351, rfl⟩
abbrev main_v225 : Ref sig .tc := ⟨.hbm, 352, rfl⟩
abbrev main_v226 : Ref sig .tc := ⟨.hbm, 353, rfl⟩
abbrev main_c_78 : Ref sig .tc := ⟨.hbm, 354, rfl⟩
abbrev main_v227 : Ref sig .tc := ⟨.hbm, 355, rfl⟩
abbrev main_v228 : Ref sig .tc := ⟨.hbm, 356, rfl⟩
abbrev main_v229 : Ref sig .tc := ⟨.hbm, 357, rfl⟩
abbrev main_v230 : Ref sig .tc := ⟨.hbm, 358, rfl⟩
abbrev main_v231 : Ref sig .tc := ⟨.hbm, 359, rfl⟩
abbrev main_v232 : Ref sig .tc := ⟨.hbm, 360, rfl⟩
abbrev main_v233 : Ref sig .tc := ⟨.hbm, 361, rfl⟩
abbrev main_v234 : Ref sig .tc := ⟨.hbm, 362, rfl⟩
abbrev main_v235 : Ref sig .tc := ⟨.hbm, 363, rfl⟩
abbrev main_v236 : Ref sig .tc := ⟨.hbm, 364, rfl⟩
abbrev main_v237 : Ref sig .tc := ⟨.hbm, 365, rfl⟩
abbrev main_v238 : Ref sig .tc := ⟨.hbm, 366, rfl⟩
abbrev main_v239 : Ref sig .tc := ⟨.hbm, 367, rfl⟩
abbrev main_v240 : Ref sig .tc := ⟨.hbm, 368, rfl⟩
abbrev main_v241 : Ref sig .tc := ⟨.hbm, 369, rfl⟩
abbrev main_v242 : Ref sig .tc := ⟨.hbm, 370, rfl⟩
abbrev main_c_79 : Ref sig .tc := ⟨.hbm, 371, rfl⟩
abbrev main_c_80 : Ref sig .tc := ⟨.hbm, 372, rfl⟩
abbrev main_call9_v0 : Ref sig .tc := ⟨.hbm, 373, rfl⟩
abbrev main_call9_v1 : Ref sig .tc := ⟨.hbm, 374, rfl⟩
abbrev main_call9_v2 : Ref sig .tc := ⟨.hbm, 375, rfl⟩
abbrev main_call9_v3 : Ref sig .tc := ⟨.hbm, 376, rfl⟩
abbrev main_call9_v4 : Ref sig .tc := ⟨.hbm, 377, rfl⟩
abbrev main_v243 : Ref sig .tc := ⟨.hbm, 378, rfl⟩
abbrev main_v244 : Ref sig .tc := ⟨.hbm, 379, rfl⟩
abbrev main_c_81 : Ref sig .tc := ⟨.hbm, 380, rfl⟩
abbrev main_c_82 : Ref sig .tc := ⟨.hbm, 381, rfl⟩
abbrev main_call10_v0 : Ref sig .tc := ⟨.hbm, 382, rfl⟩
abbrev main_call10_v1 : Ref sig .tc := ⟨.hbm, 383, rfl⟩
abbrev main_call10_v2 : Ref sig .tc := ⟨.hbm, 384, rfl⟩
abbrev main_call10_v3 : Ref sig .tc := ⟨.hbm, 385, rfl⟩
abbrev main_call10_v4 : Ref sig .tc := ⟨.hbm, 386, rfl⟩
abbrev main_v245 : Ref sig .tc := ⟨.hbm, 387, rfl⟩
abbrev main_v246 : Ref sig .tc := ⟨.hbm, 388, rfl⟩
abbrev main_c_83 : Ref sig .tc := ⟨.hbm, 389, rfl⟩
abbrev main_c_84 : Ref sig .tc := ⟨.hbm, 390, rfl⟩
abbrev main_call11_v0 : Ref sig .tc := ⟨.hbm, 391, rfl⟩
abbrev main_call11_v1 : Ref sig .tc := ⟨.hbm, 392, rfl⟩
abbrev main_call11_v2 : Ref sig .tc := ⟨.hbm, 393, rfl⟩
abbrev main_call11_v3 : Ref sig .tc := ⟨.hbm, 394, rfl⟩
abbrev main_call11_v4 : Ref sig .tc := ⟨.hbm, 395, rfl⟩
abbrev main_v247 : Ref sig .tc := ⟨.hbm, 396, rfl⟩
abbrev main_v248 : Ref sig .tc := ⟨.hbm, 397, rfl⟩
abbrev main_cst_85 : Ref sig .tc := ⟨.hbm, 398, rfl⟩
abbrev main_v249 : Ref sig .tc := ⟨.hbm, 399, rfl⟩
abbrev main_v250 : Ref sig .tc := ⟨.hbm, 400, rfl⟩
abbrev main_cst_86 : Ref sig .tc := ⟨.hbm, 401, rfl⟩
abbrev main_v251 : Ref sig .tc := ⟨.hbm, 402, rfl⟩
abbrev main_v252 : Ref sig .tc := ⟨.hbm, 403, rfl⟩
abbrev main_v253 : Ref sig .tc := ⟨.hbm, 404, rfl⟩
abbrev main_cst_87 : Ref sig .tc := ⟨.hbm, 405, rfl⟩
abbrev main_v254 : Ref sig .tc := ⟨.hbm, 406, rfl⟩
abbrev main_v255 : Ref sig .tc := ⟨.hbm, 407, rfl⟩
abbrev main_v256 : Ref sig .tc := ⟨.hbm, 408, rfl⟩
abbrev main_cst_88 : Ref sig .tc := ⟨.hbm, 409, rfl⟩
abbrev main_v257 : Ref sig .tc := ⟨.hbm, 410, rfl⟩
abbrev main_v258 : Ref sig .tc := ⟨.hbm, 411, rfl⟩
abbrev main_v259 : Ref sig .tc := ⟨.hbm, 412, rfl⟩
abbrev main_cst_89 : Ref sig .tc := ⟨.hbm, 413, rfl⟩
abbrev main_v260 : Ref sig .tc := ⟨.hbm, 414, rfl⟩
abbrev main_v261 : Ref sig .tc := ⟨.hbm, 415, rfl⟩
abbrev main_v262 : Ref sig .tc := ⟨.hbm, 416, rfl⟩
abbrev main_cst_90 : Ref sig .tc := ⟨.hbm, 417, rfl⟩
abbrev main_v263 : Ref sig .tc := ⟨.hbm, 418, rfl⟩
abbrev main_v264 : Ref sig .tc := ⟨.hbm, 419, rfl⟩
abbrev main_v265 : Ref sig .tc := ⟨.hbm, 420, rfl⟩
abbrev main_v266 : Ref sig .tc := ⟨.hbm, 421, rfl⟩
abbrev main_c_91 : Ref sig .tc := ⟨.hbm, 422, rfl⟩
abbrev main_v267 : Ref sig .tc := ⟨.hbm, 423, rfl⟩
abbrev main_v268 : Ref sig .tc := ⟨.hbm, 424, rfl⟩
abbrev main_c_92 : Ref sig .tc := ⟨.hbm, 425, rfl⟩
abbrev main_v269 : Ref sig .tc := ⟨.hbm, 426, rfl⟩
abbrev main_v270 : Ref sig .tc := ⟨.hbm, 427, rfl⟩
abbrev main_v271 : Ref sig .tc := ⟨.hbm, 428, rfl⟩
abbrev main_c_93 : Ref sig .tc := ⟨.hbm, 429, rfl⟩
abbrev main_v272 : Ref sig .tc := ⟨.hbm, 430, rfl⟩
abbrev main_v273 : Ref sig .tc := ⟨.hbm, 431, rfl⟩
abbrev main_c_94 : Ref sig .tc := ⟨.hbm, 432, rfl⟩
abbrev main_v274 : Ref sig .tc := ⟨.hbm, 433, rfl⟩
abbrev main_v275 : Ref sig .tc := ⟨.hbm, 434, rfl⟩
abbrev main_v276 : Ref sig .tc := ⟨.hbm, 435, rfl⟩
abbrev main_c_95 : Ref sig .tc := ⟨.hbm, 436, rfl⟩
abbrev main_v277 : Ref sig .tc := ⟨.hbm, 437, rfl⟩
abbrev main_v278 : Ref sig .tc := ⟨.hbm, 438, rfl⟩
abbrev main_c_96 : Ref sig .tc := ⟨.hbm, 439, rfl⟩
abbrev main_v279 : Ref sig .tc := ⟨.hbm, 440, rfl⟩
abbrev main_v280 : Ref sig .tc := ⟨.hbm, 441, rfl⟩
abbrev main_v281 : Ref sig .tc := ⟨.hbm, 442, rfl⟩
abbrev main_c_97 : Ref sig .tc := ⟨.hbm, 443, rfl⟩
abbrev main_v282 : Ref sig .tc := ⟨.hbm, 444, rfl⟩
abbrev main_v283 : Ref sig .tc := ⟨.hbm, 445, rfl⟩
abbrev main_c_98 : Ref sig .tc := ⟨.hbm, 446, rfl⟩
abbrev main_v284 : Ref sig .tc := ⟨.hbm, 447, rfl⟩
abbrev main_v285 : Ref sig .tc := ⟨.hbm, 448, rfl⟩
abbrev main_v286 : Ref sig .tc := ⟨.hbm, 449, rfl⟩
abbrev main_v287 : Ref sig .tc := ⟨.hbm, 450, rfl⟩
abbrev main_v288 : Ref sig .tc := ⟨.hbm, 451, rfl⟩
abbrev main_v289 : Ref sig .tc := ⟨.hbm, 452, rfl⟩
abbrev main_v290 : Ref sig .tc := ⟨.hbm, 453, rfl⟩
abbrev main_v291 : Ref sig .tc := ⟨.hbm, 454, rfl⟩
abbrev main_v292 : Ref sig .tc := ⟨.hbm, 455, rfl⟩
abbrev main_v293 : Ref sig .tc := ⟨.hbm, 456, rfl⟩
abbrev main_v294 : Ref sig .tc := ⟨.hbm, 457, rfl⟩
abbrev main_v295 : Ref sig .tc := ⟨.hbm, 458, rfl⟩
abbrev main_v296 : Ref sig .tc := ⟨.hbm, 459, rfl⟩
abbrev main_v297 : Ref sig .tc := ⟨.hbm, 460, rfl⟩
abbrev main_v298 : Ref sig .tc := ⟨.hbm, 461, rfl⟩
abbrev main_v299 : Ref sig .tc := ⟨.hbm, 462, rfl⟩
abbrev main_c_99 : Ref sig .tc := ⟨.hbm, 463, rfl⟩
abbrev main_c_100 : Ref sig .tc := ⟨.hbm, 464, rfl⟩
abbrev main_call12_v0 : Ref sig .tc := ⟨.hbm, 465, rfl⟩
abbrev main_call12_v1 : Ref sig .tc := ⟨.hbm, 466, rfl⟩
abbrev main_call12_v2 : Ref sig .tc := ⟨.hbm, 467, rfl⟩
abbrev main_call12_v3 : Ref sig .tc := ⟨.hbm, 468, rfl⟩
abbrev main_call12_v4 : Ref sig .tc := ⟨.hbm, 469, rfl⟩
abbrev main_v300 : Ref sig .tc := ⟨.hbm, 470, rfl⟩
abbrev main_v301 : Ref sig .tc := ⟨.hbm, 471, rfl⟩
abbrev main_c_101 : Ref sig .tc := ⟨.hbm, 472, rfl⟩
abbrev main_c_102 : Ref sig .tc := ⟨.hbm, 473, rfl⟩
abbrev main_call13_v0 : Ref sig .tc := ⟨.hbm, 474, rfl⟩
abbrev main_call13_v1 : Ref sig .tc := ⟨.hbm, 475, rfl⟩
abbrev main_call13_v2 : Ref sig .tc := ⟨.hbm, 476, rfl⟩
abbrev main_call13_v3 : Ref sig .tc := ⟨.hbm, 477, rfl⟩
abbrev main_call13_v4 : Ref sig .tc := ⟨.hbm, 478, rfl⟩
abbrev main_v302 : Ref sig .tc := ⟨.hbm, 479, rfl⟩
abbrev main_v303 : Ref sig .tc := ⟨.hbm, 480, rfl⟩
abbrev main_c_103 : Ref sig .tc := ⟨.hbm, 481, rfl⟩
abbrev main_c_104 : Ref sig .tc := ⟨.hbm, 482, rfl⟩
abbrev main_call14_v0 : Ref sig .tc := ⟨.hbm, 483, rfl⟩
abbrev main_call14_v1 : Ref sig .tc := ⟨.hbm, 484, rfl⟩
abbrev main_call14_v2 : Ref sig .tc := ⟨.hbm, 485, rfl⟩
abbrev main_call14_v3 : Ref sig .tc := ⟨.hbm, 486, rfl⟩
abbrev main_call14_v4 : Ref sig .tc := ⟨.hbm, 487, rfl⟩
abbrev main_v304 : Ref sig .tc := ⟨.hbm, 488, rfl⟩
abbrev main_v305 : Ref sig .tc := ⟨.hbm, 489, rfl⟩
abbrev main_cst_105 : Ref sig .tc := ⟨.hbm, 490, rfl⟩
abbrev main_v306 : Ref sig .tc := ⟨.hbm, 491, rfl⟩
abbrev main_v307 : Ref sig .tc := ⟨.hbm, 492, rfl⟩
abbrev main_cst_106 : Ref sig .tc := ⟨.hbm, 493, rfl⟩
abbrev main_v308 : Ref sig .tc := ⟨.hbm, 494, rfl⟩
abbrev main_v309 : Ref sig .tc := ⟨.hbm, 495, rfl⟩
abbrev main_v310 : Ref sig .tc := ⟨.hbm, 496, rfl⟩
abbrev main_cst_107 : Ref sig .tc := ⟨.hbm, 497, rfl⟩
abbrev main_v311 : Ref sig .tc := ⟨.hbm, 498, rfl⟩
abbrev main_v312 : Ref sig .tc := ⟨.hbm, 499, rfl⟩
abbrev main_v313 : Ref sig .tc := ⟨.hbm, 500, rfl⟩
abbrev main_cst_108 : Ref sig .tc := ⟨.hbm, 501, rfl⟩
abbrev main_v314 : Ref sig .tc := ⟨.hbm, 502, rfl⟩
abbrev main_v315 : Ref sig .tc := ⟨.hbm, 503, rfl⟩
abbrev main_v316 : Ref sig .tc := ⟨.hbm, 504, rfl⟩
abbrev main_cst_109 : Ref sig .tc := ⟨.hbm, 505, rfl⟩
abbrev main_v317 : Ref sig .tc := ⟨.hbm, 506, rfl⟩
abbrev main_v318 : Ref sig .tc := ⟨.hbm, 507, rfl⟩
abbrev main_v319 : Ref sig .tc := ⟨.hbm, 508, rfl⟩
abbrev main_cst_110 : Ref sig .tc := ⟨.hbm, 509, rfl⟩
abbrev main_v320 : Ref sig .tc := ⟨.hbm, 510, rfl⟩
abbrev main_v321 : Ref sig .tc := ⟨.hbm, 511, rfl⟩
abbrev main_v322 : Ref sig .tc := ⟨.hbm, 512, rfl⟩
abbrev main_v323 : Ref sig .tc := ⟨.hbm, 513, rfl⟩
abbrev main_c_111 : Ref sig .tc := ⟨.hbm, 514, rfl⟩
abbrev main_v324 : Ref sig .tc := ⟨.hbm, 515, rfl⟩
abbrev main_v325 : Ref sig .tc := ⟨.hbm, 516, rfl⟩
abbrev main_c_112 : Ref sig .tc := ⟨.hbm, 517, rfl⟩
abbrev main_v326 : Ref sig .tc := ⟨.hbm, 518, rfl⟩
abbrev main_v327 : Ref sig .tc := ⟨.hbm, 519, rfl⟩
abbrev main_v328 : Ref sig .tc := ⟨.hbm, 520, rfl⟩
abbrev main_c_113 : Ref sig .tc := ⟨.hbm, 521, rfl⟩
abbrev main_v329 : Ref sig .tc := ⟨.hbm, 522, rfl⟩
abbrev main_v330 : Ref sig .tc := ⟨.hbm, 523, rfl⟩
abbrev main_c_114 : Ref sig .tc := ⟨.hbm, 524, rfl⟩
abbrev main_v331 : Ref sig .tc := ⟨.hbm, 525, rfl⟩
abbrev main_v332 : Ref sig .tc := ⟨.hbm, 526, rfl⟩
abbrev main_v333 : Ref sig .tc := ⟨.hbm, 527, rfl⟩
abbrev main_c_115 : Ref sig .tc := ⟨.hbm, 528, rfl⟩
abbrev main_v334 : Ref sig .tc := ⟨.hbm, 529, rfl⟩
abbrev main_v335 : Ref sig .tc := ⟨.hbm, 530, rfl⟩
abbrev main_c_116 : Ref sig .tc := ⟨.hbm, 531, rfl⟩
abbrev main_v336 : Ref sig .tc := ⟨.hbm, 532, rfl⟩
abbrev main_v337 : Ref sig .tc := ⟨.hbm, 533, rfl⟩
abbrev main_v338 : Ref sig .tc := ⟨.hbm, 534, rfl⟩
abbrev main_c_117 : Ref sig .tc := ⟨.hbm, 535, rfl⟩
abbrev main_v339 : Ref sig .tc := ⟨.hbm, 536, rfl⟩
abbrev main_v340 : Ref sig .tc := ⟨.hbm, 537, rfl⟩
abbrev main_c_118 : Ref sig .tc := ⟨.hbm, 538, rfl⟩
abbrev main_v341 : Ref sig .tc := ⟨.hbm, 539, rfl⟩
abbrev main_v342 : Ref sig .tc := ⟨.hbm, 540, rfl⟩
abbrev main_v343 : Ref sig .tc := ⟨.hbm, 541, rfl⟩
abbrev main_v344 : Ref sig .tc := ⟨.hbm, 542, rfl⟩
abbrev main_v345 : Ref sig .tc := ⟨.hbm, 543, rfl⟩
abbrev main_v346 : Ref sig .tc := ⟨.hbm, 544, rfl⟩
abbrev main_v347 : Ref sig .tc := ⟨.hbm, 545, rfl⟩
abbrev main_v348 : Ref sig .tc := ⟨.hbm, 546, rfl⟩
abbrev main_v349 : Ref sig .tc := ⟨.hbm, 547, rfl⟩
abbrev main_v350 : Ref sig .tc := ⟨.hbm, 548, rfl⟩
abbrev main_v351 : Ref sig .tc := ⟨.hbm, 549, rfl⟩
abbrev main_v352 : Ref sig .tc := ⟨.hbm, 550, rfl⟩
abbrev main_v353 : Ref sig .tc := ⟨.hbm, 551, rfl⟩
abbrev main_v354 : Ref sig .tc := ⟨.hbm, 552, rfl⟩
abbrev main_v355 : Ref sig .tc := ⟨.hbm, 553, rfl⟩
abbrev main_v356 : Ref sig .tc := ⟨.hbm, 554, rfl⟩
abbrev main_c_119 : Ref sig .tc := ⟨.hbm, 555, rfl⟩
abbrev main_c_120 : Ref sig .tc := ⟨.hbm, 556, rfl⟩
abbrev main_call15_v0 : Ref sig .tc := ⟨.hbm, 557, rfl⟩
abbrev main_call15_v1 : Ref sig .tc := ⟨.hbm, 558, rfl⟩
abbrev main_call15_v2 : Ref sig .tc := ⟨.hbm, 559, rfl⟩
abbrev main_call15_v3 : Ref sig .tc := ⟨.hbm, 560, rfl⟩
abbrev main_call15_v4 : Ref sig .tc := ⟨.hbm, 561, rfl⟩
abbrev main_v357 : Ref sig .tc := ⟨.hbm, 562, rfl⟩
abbrev main_v358 : Ref sig .tc := ⟨.hbm, 563, rfl⟩
abbrev main_c_121 : Ref sig .tc := ⟨.hbm, 564, rfl⟩
abbrev main_c_122 : Ref sig .tc := ⟨.hbm, 565, rfl⟩
abbrev main_call16_v0 : Ref sig .tc := ⟨.hbm, 566, rfl⟩
abbrev main_call16_v1 : Ref sig .tc := ⟨.hbm, 567, rfl⟩
abbrev main_call16_v2 : Ref sig .tc := ⟨.hbm, 568, rfl⟩
abbrev main_call16_v3 : Ref sig .tc := ⟨.hbm, 569, rfl⟩
abbrev main_call16_v4 : Ref sig .tc := ⟨.hbm, 570, rfl⟩
abbrev main_v359 : Ref sig .tc := ⟨.hbm, 571, rfl⟩
abbrev main_v360 : Ref sig .tc := ⟨.hbm, 572, rfl⟩
abbrev main_c_123 : Ref sig .tc := ⟨.hbm, 573, rfl⟩
abbrev main_c_124 : Ref sig .tc := ⟨.hbm, 574, rfl⟩
abbrev main_call17_v0 : Ref sig .tc := ⟨.hbm, 575, rfl⟩
abbrev main_call17_v1 : Ref sig .tc := ⟨.hbm, 576, rfl⟩
abbrev main_call17_v2 : Ref sig .tc := ⟨.hbm, 577, rfl⟩
abbrev main_call17_v3 : Ref sig .tc := ⟨.hbm, 578, rfl⟩
abbrev main_call17_v4 : Ref sig .tc := ⟨.hbm, 579, rfl⟩
abbrev main_v361 : Ref sig .tc := ⟨.hbm, 580, rfl⟩
abbrev main_v362 : Ref sig .tc := ⟨.hbm, 581, rfl⟩
abbrev main_cst_125 : Ref sig .tc := ⟨.hbm, 582, rfl⟩
abbrev main_v363 : Ref sig .tc := ⟨.hbm, 583, rfl⟩
abbrev main_v364 : Ref sig .tc := ⟨.hbm, 584, rfl⟩
abbrev main_cst_126 : Ref sig .tc := ⟨.hbm, 585, rfl⟩
abbrev main_v365 : Ref sig .tc := ⟨.hbm, 586, rfl⟩
abbrev main_v366 : Ref sig .tc := ⟨.hbm, 587, rfl⟩
abbrev main_v367 : Ref sig .tc := ⟨.hbm, 588, rfl⟩
abbrev main_cst_127 : Ref sig .tc := ⟨.hbm, 589, rfl⟩
abbrev main_v368 : Ref sig .tc := ⟨.hbm, 590, rfl⟩
abbrev main_v369 : Ref sig .tc := ⟨.hbm, 591, rfl⟩
abbrev main_v370 : Ref sig .tc := ⟨.hbm, 592, rfl⟩
abbrev main_cst_128 : Ref sig .tc := ⟨.hbm, 593, rfl⟩
abbrev main_v371 : Ref sig .tc := ⟨.hbm, 594, rfl⟩
abbrev main_v372 : Ref sig .tc := ⟨.hbm, 595, rfl⟩
abbrev main_v373 : Ref sig .tc := ⟨.hbm, 596, rfl⟩
abbrev main_cst_129 : Ref sig .tc := ⟨.hbm, 597, rfl⟩
abbrev main_v374 : Ref sig .tc := ⟨.hbm, 598, rfl⟩
abbrev main_v375 : Ref sig .tc := ⟨.hbm, 599, rfl⟩
abbrev main_v376 : Ref sig .tc := ⟨.hbm, 600, rfl⟩
abbrev main_cst_130 : Ref sig .tc := ⟨.hbm, 601, rfl⟩
abbrev main_v377 : Ref sig .tc := ⟨.hbm, 602, rfl⟩
abbrev main_v378 : Ref sig .tc := ⟨.hbm, 603, rfl⟩
abbrev main_v379 : Ref sig .tc := ⟨.hbm, 604, rfl⟩
abbrev main_v380 : Ref sig .tc := ⟨.hbm, 605, rfl⟩
abbrev main_c_131 : Ref sig .tc := ⟨.hbm, 606, rfl⟩
abbrev main_v381 : Ref sig .tc := ⟨.hbm, 607, rfl⟩
abbrev main_v382 : Ref sig .tc := ⟨.hbm, 608, rfl⟩
abbrev main_c_132 : Ref sig .tc := ⟨.hbm, 609, rfl⟩
abbrev main_v383 : Ref sig .tc := ⟨.hbm, 610, rfl⟩
abbrev main_v384 : Ref sig .tc := ⟨.hbm, 611, rfl⟩
abbrev main_v385 : Ref sig .tc := ⟨.hbm, 612, rfl⟩
abbrev main_c_133 : Ref sig .tc := ⟨.hbm, 613, rfl⟩
abbrev main_v386 : Ref sig .tc := ⟨.hbm, 614, rfl⟩
abbrev main_v387 : Ref sig .tc := ⟨.hbm, 615, rfl⟩
abbrev main_c_134 : Ref sig .tc := ⟨.hbm, 616, rfl⟩
abbrev main_v388 : Ref sig .tc := ⟨.hbm, 617, rfl⟩
abbrev main_v389 : Ref sig .tc := ⟨.hbm, 618, rfl⟩
abbrev main_v390 : Ref sig .tc := ⟨.hbm, 619, rfl⟩
abbrev main_c_135 : Ref sig .tc := ⟨.hbm, 620, rfl⟩
abbrev main_v391 : Ref sig .tc := ⟨.hbm, 621, rfl⟩
abbrev main_v392 : Ref sig .tc := ⟨.hbm, 622, rfl⟩
abbrev main_c_136 : Ref sig .tc := ⟨.hbm, 623, rfl⟩
abbrev main_v393 : Ref sig .tc := ⟨.hbm, 624, rfl⟩
abbrev main_v394 : Ref sig .tc := ⟨.hbm, 625, rfl⟩
abbrev main_v395 : Ref sig .tc := ⟨.hbm, 626, rfl⟩
abbrev main_c_137 : Ref sig .tc := ⟨.hbm, 627, rfl⟩
abbrev main_v396 : Ref sig .tc := ⟨.hbm, 628, rfl⟩
abbrev main_v397 : Ref sig .tc := ⟨.hbm, 629, rfl⟩
abbrev main_c_138 : Ref sig .tc := ⟨.hbm, 630, rfl⟩
abbrev main_v398 : Ref sig .tc := ⟨.hbm, 631, rfl⟩
abbrev main_v399 : Ref sig .tc := ⟨.hbm, 632, rfl⟩
abbrev main_v400 : Ref sig .tc := ⟨.hbm, 633, rfl⟩
abbrev main_v401 : Ref sig .tc := ⟨.hbm, 634, rfl⟩
abbrev main_v402 : Ref sig .tc := ⟨.hbm, 635, rfl⟩
abbrev main_v403 : Ref sig .tc := ⟨.hbm, 636, rfl⟩
abbrev main_v404 : Ref sig .tc := ⟨.hbm, 637, rfl⟩
abbrev main_v405 : Ref sig .tc := ⟨.hbm, 638, rfl⟩
abbrev main_v406 : Ref sig .tc := ⟨.hbm, 639, rfl⟩
abbrev main_v407 : Ref sig .tc := ⟨.hbm, 640, rfl⟩
abbrev main_v408 : Ref sig .tc := ⟨.hbm, 641, rfl⟩
abbrev main_v409 : Ref sig .tc := ⟨.hbm, 642, rfl⟩
abbrev main_v410 : Ref sig .tc := ⟨.hbm, 643, rfl⟩
abbrev main_v411 : Ref sig .tc := ⟨.hbm, 644, rfl⟩
abbrev main_v412 : Ref sig .tc := ⟨.hbm, 645, rfl⟩
abbrev main_v413 : Ref sig .tc := ⟨.hbm, 646, rfl⟩
abbrev main_c_139 : Ref sig .tc := ⟨.hbm, 647, rfl⟩
abbrev main_c_140 : Ref sig .tc := ⟨.hbm, 648, rfl⟩
abbrev main_call18_v0 : Ref sig .tc := ⟨.hbm, 649, rfl⟩
abbrev main_call18_v1 : Ref sig .tc := ⟨.hbm, 650, rfl⟩
abbrev main_call18_v2 : Ref sig .tc := ⟨.hbm, 651, rfl⟩
abbrev main_call18_v3 : Ref sig .tc := ⟨.hbm, 652, rfl⟩
abbrev main_call18_v4 : Ref sig .tc := ⟨.hbm, 653, rfl⟩
abbrev main_v414 : Ref sig .tc := ⟨.hbm, 654, rfl⟩
abbrev main_v415 : Ref sig .tc := ⟨.hbm, 655, rfl⟩
abbrev main_c_141 : Ref sig .tc := ⟨.hbm, 656, rfl⟩
abbrev main_c_142 : Ref sig .tc := ⟨.hbm, 657, rfl⟩
abbrev main_call19_v0 : Ref sig .tc := ⟨.hbm, 658, rfl⟩
abbrev main_call19_v1 : Ref sig .tc := ⟨.hbm, 659, rfl⟩
abbrev main_call19_v2 : Ref sig .tc := ⟨.hbm, 660, rfl⟩
abbrev main_call19_v3 : Ref sig .tc := ⟨.hbm, 661, rfl⟩
abbrev main_call19_v4 : Ref sig .tc := ⟨.hbm, 662, rfl⟩
abbrev main_v416 : Ref sig .tc := ⟨.hbm, 663, rfl⟩
abbrev main_v417 : Ref sig .tc := ⟨.hbm, 664, rfl⟩
abbrev main_c_143 : Ref sig .tc := ⟨.hbm, 665, rfl⟩
abbrev main_c_144 : Ref sig .tc := ⟨.hbm, 666, rfl⟩
abbrev main_call20_v0 : Ref sig .tc := ⟨.hbm, 667, rfl⟩
abbrev main_call20_v1 : Ref sig .tc := ⟨.hbm, 668, rfl⟩
abbrev main_call20_v2 : Ref sig .tc := ⟨.hbm, 669, rfl⟩
abbrev main_call20_v3 : Ref sig .tc := ⟨.hbm, 670, rfl⟩
abbrev main_call20_v4 : Ref sig .tc := ⟨.hbm, 671, rfl⟩
abbrev main_v418 : Ref sig .tc := ⟨.hbm, 672, rfl⟩
abbrev main_v419 : Ref sig .tc := ⟨.hbm, 673, rfl⟩
abbrev main_cst_145 : Ref sig .tc := ⟨.hbm, 674, rfl⟩
abbrev main_v420 : Ref sig .tc := ⟨.hbm, 675, rfl⟩
abbrev main_v421 : Ref sig .tc := ⟨.hbm, 676, rfl⟩
abbrev main_cst_146 : Ref sig .tc := ⟨.hbm, 677, rfl⟩
abbrev main_v422 : Ref sig .tc := ⟨.hbm, 678, rfl⟩
abbrev main_v423 : Ref sig .tc := ⟨.hbm, 679, rfl⟩
abbrev main_v424 : Ref sig .tc := ⟨.hbm, 680, rfl⟩
abbrev main_cst_147 : Ref sig .tc := ⟨.hbm, 681, rfl⟩
abbrev main_v425 : Ref sig .tc := ⟨.hbm, 682, rfl⟩
abbrev main_v426 : Ref sig .tc := ⟨.hbm, 683, rfl⟩
abbrev main_v427 : Ref sig .tc := ⟨.hbm, 684, rfl⟩
abbrev main_cst_148 : Ref sig .tc := ⟨.hbm, 685, rfl⟩
abbrev main_v428 : Ref sig .tc := ⟨.hbm, 686, rfl⟩
abbrev main_v429 : Ref sig .tc := ⟨.hbm, 687, rfl⟩
abbrev main_v430 : Ref sig .tc := ⟨.hbm, 688, rfl⟩
abbrev main_cst_149 : Ref sig .tc := ⟨.hbm, 689, rfl⟩
abbrev main_v431 : Ref sig .tc := ⟨.hbm, 690, rfl⟩
abbrev main_v432 : Ref sig .tc := ⟨.hbm, 691, rfl⟩
abbrev main_v433 : Ref sig .tc := ⟨.hbm, 692, rfl⟩
abbrev main_cst_150 : Ref sig .tc := ⟨.hbm, 693, rfl⟩
abbrev main_v434 : Ref sig .tc := ⟨.hbm, 694, rfl⟩
abbrev main_v435 : Ref sig .tc := ⟨.hbm, 695, rfl⟩
abbrev main_v436 : Ref sig .tc := ⟨.hbm, 696, rfl⟩
abbrev main_v437 : Ref sig .tc := ⟨.hbm, 697, rfl⟩
abbrev main_c_151 : Ref sig .tc := ⟨.hbm, 698, rfl⟩
abbrev main_v438 : Ref sig .tc := ⟨.hbm, 699, rfl⟩
abbrev main_v439 : Ref sig .tc := ⟨.hbm, 700, rfl⟩
abbrev main_c_152 : Ref sig .tc := ⟨.hbm, 701, rfl⟩
abbrev main_v440 : Ref sig .tc := ⟨.hbm, 702, rfl⟩
abbrev main_v441 : Ref sig .tc := ⟨.hbm, 703, rfl⟩
abbrev main_v442 : Ref sig .tc := ⟨.hbm, 704, rfl⟩
abbrev main_c_153 : Ref sig .tc := ⟨.hbm, 705, rfl⟩
abbrev main_v443 : Ref sig .tc := ⟨.hbm, 706, rfl⟩
abbrev main_v444 : Ref sig .tc := ⟨.hbm, 707, rfl⟩
abbrev main_c_154 : Ref sig .tc := ⟨.hbm, 708, rfl⟩
abbrev main_v445 : Ref sig .tc := ⟨.hbm, 709, rfl⟩
abbrev main_v446 : Ref sig .tc := ⟨.hbm, 710, rfl⟩
abbrev main_v447 : Ref sig .tc := ⟨.hbm, 711, rfl⟩
abbrev main_c_155 : Ref sig .tc := ⟨.hbm, 712, rfl⟩
abbrev main_v448 : Ref sig .tc := ⟨.hbm, 713, rfl⟩
abbrev main_v449 : Ref sig .tc := ⟨.hbm, 714, rfl⟩
abbrev main_c_156 : Ref sig .tc := ⟨.hbm, 715, rfl⟩
abbrev main_v450 : Ref sig .tc := ⟨.hbm, 716, rfl⟩
abbrev main_v451 : Ref sig .tc := ⟨.hbm, 717, rfl⟩
abbrev main_v452 : Ref sig .tc := ⟨.hbm, 718, rfl⟩
abbrev main_c_157 : Ref sig .tc := ⟨.hbm, 719, rfl⟩
abbrev main_v453 : Ref sig .tc := ⟨.hbm, 720, rfl⟩
abbrev main_v454 : Ref sig .tc := ⟨.hbm, 721, rfl⟩
abbrev main_c_158 : Ref sig .tc := ⟨.hbm, 722, rfl⟩
abbrev main_v455 : Ref sig .tc := ⟨.hbm, 723, rfl⟩
abbrev main_v456 : Ref sig .tc := ⟨.hbm, 724, rfl⟩
abbrev main_v457 : Ref sig .tc := ⟨.hbm, 725, rfl⟩
abbrev main_v458 : Ref sig .tc := ⟨.hbm, 726, rfl⟩
abbrev main_v459 : Ref sig .tc := ⟨.hbm, 727, rfl⟩
abbrev main_v460 : Ref sig .tc := ⟨.hbm, 728, rfl⟩
abbrev main_v461 : Ref sig .tc := ⟨.hbm, 729, rfl⟩
abbrev main_v462 : Ref sig .tc := ⟨.hbm, 730, rfl⟩
abbrev main_v463 : Ref sig .tc := ⟨.hbm, 731, rfl⟩
abbrev main_v464 : Ref sig .tc := ⟨.hbm, 732, rfl⟩
abbrev main_v465 : Ref sig .tc := ⟨.hbm, 733, rfl⟩
abbrev main_v466 : Ref sig .tc := ⟨.hbm, 734, rfl⟩
abbrev main_v467 : Ref sig .tc := ⟨.hbm, 735, rfl⟩
abbrev main_v468 : Ref sig .tc := ⟨.hbm, 736, rfl⟩
abbrev main_v469 : Ref sig .tc := ⟨.hbm, 737, rfl⟩
abbrev main_v470 : Ref sig .tc := ⟨.hbm, 738, rfl⟩
abbrev main_c_159 : Ref sig .tc := ⟨.hbm, 739, rfl⟩
abbrev main_c_160 : Ref sig .tc := ⟨.hbm, 740, rfl⟩
abbrev main_call21_v0 : Ref sig .tc := ⟨.hbm, 741, rfl⟩
abbrev main_call21_v1 : Ref sig .tc := ⟨.hbm, 742, rfl⟩
abbrev main_call21_v2 : Ref sig .tc := ⟨.hbm, 743, rfl⟩
abbrev main_call21_v3 : Ref sig .tc := ⟨.hbm, 744, rfl⟩
abbrev main_call21_v4 : Ref sig .tc := ⟨.hbm, 745, rfl⟩
abbrev main_v471 : Ref sig .tc := ⟨.hbm, 746, rfl⟩
abbrev main_v472 : Ref sig .tc := ⟨.hbm, 747, rfl⟩
abbrev main_c_161 : Ref sig .tc := ⟨.hbm, 748, rfl⟩
abbrev main_c_162 : Ref sig .tc := ⟨.hbm, 749, rfl⟩
abbrev main_call22_v0 : Ref sig .tc := ⟨.hbm, 750, rfl⟩
abbrev main_call22_v1 : Ref sig .tc := ⟨.hbm, 751, rfl⟩
abbrev main_call22_v2 : Ref sig .tc := ⟨.hbm, 752, rfl⟩
abbrev main_call22_v3 : Ref sig .tc := ⟨.hbm, 753, rfl⟩
abbrev main_call22_v4 : Ref sig .tc := ⟨.hbm, 754, rfl⟩
abbrev main_v473 : Ref sig .tc := ⟨.hbm, 755, rfl⟩
abbrev main_v474 : Ref sig .tc := ⟨.hbm, 756, rfl⟩
abbrev main_c_163 : Ref sig .tc := ⟨.hbm, 757, rfl⟩
abbrev main_c_164 : Ref sig .tc := ⟨.hbm, 758, rfl⟩
abbrev main_call23_v0 : Ref sig .tc := ⟨.hbm, 759, rfl⟩
abbrev main_call23_v1 : Ref sig .tc := ⟨.hbm, 760, rfl⟩
abbrev main_call23_v2 : Ref sig .tc := ⟨.hbm, 761, rfl⟩
abbrev main_call23_v3 : Ref sig .tc := ⟨.hbm, 762, rfl⟩
abbrev main_call23_v4 : Ref sig .tc := ⟨.hbm, 763, rfl⟩
abbrev main_v475 : Ref sig .tc := ⟨.hbm, 764, rfl⟩
abbrev main_v476 : Ref sig .tc := ⟨.hbm, 765, rfl⟩
abbrev main_cst_165 : Ref sig .tc := ⟨.hbm, 766, rfl⟩
abbrev main_v477 : Ref sig .tc := ⟨.hbm, 767, rfl⟩
abbrev main_v478 : Ref sig .tc := ⟨.hbm, 768, rfl⟩
abbrev main_cst_166 : Ref sig .tc := ⟨.hbm, 769, rfl⟩
abbrev main_v479 : Ref sig .tc := ⟨.hbm, 770, rfl⟩
abbrev main_v480 : Ref sig .tc := ⟨.hbm, 771, rfl⟩
abbrev main_v481 : Ref sig .tc := ⟨.hbm, 772, rfl⟩
abbrev main_cst_167 : Ref sig .tc := ⟨.hbm, 773, rfl⟩
abbrev main_v482 : Ref sig .tc := ⟨.hbm, 774, rfl⟩
abbrev main_v483 : Ref sig .tc := ⟨.hbm, 775, rfl⟩
abbrev main_v484 : Ref sig .tc := ⟨.hbm, 776, rfl⟩
abbrev main_cst_168 : Ref sig .tc := ⟨.hbm, 777, rfl⟩
abbrev main_v485 : Ref sig .tc := ⟨.hbm, 778, rfl⟩
abbrev main_v486 : Ref sig .tc := ⟨.hbm, 779, rfl⟩
abbrev main_v487 : Ref sig .tc := ⟨.hbm, 780, rfl⟩
abbrev main_cst_169 : Ref sig .tc := ⟨.hbm, 781, rfl⟩
abbrev main_v488 : Ref sig .tc := ⟨.hbm, 782, rfl⟩
abbrev main_v489 : Ref sig .tc := ⟨.hbm, 783, rfl⟩
abbrev main_v490 : Ref sig .tc := ⟨.hbm, 784, rfl⟩
abbrev main_cst_170 : Ref sig .tc := ⟨.hbm, 785, rfl⟩
abbrev main_v491 : Ref sig .tc := ⟨.hbm, 786, rfl⟩
abbrev main_v492 : Ref sig .tc := ⟨.hbm, 787, rfl⟩
abbrev main_v493 : Ref sig .tc := ⟨.hbm, 788, rfl⟩
abbrev main_v494 : Ref sig .tc := ⟨.hbm, 789, rfl⟩
abbrev main_c_171 : Ref sig .tc := ⟨.hbm, 790, rfl⟩
abbrev main_v495 : Ref sig .tc := ⟨.hbm, 791, rfl⟩
abbrev main_v496 : Ref sig .tc := ⟨.hbm, 792, rfl⟩
abbrev main_c_172 : Ref sig .tc := ⟨.hbm, 793, rfl⟩
abbrev main_v497 : Ref sig .tc := ⟨.hbm, 794, rfl⟩
abbrev main_v498 : Ref sig .tc := ⟨.hbm, 795, rfl⟩
abbrev main_v499 : Ref sig .tc := ⟨.hbm, 796, rfl⟩
abbrev main_c_173 : Ref sig .tc := ⟨.hbm, 797, rfl⟩
abbrev main_v500 : Ref sig .tc := ⟨.hbm, 798, rfl⟩
abbrev main_v501 : Ref sig .tc := ⟨.hbm, 799, rfl⟩
abbrev main_c_174 : Ref sig .tc := ⟨.hbm, 800, rfl⟩
abbrev main_v502 : Ref sig .tc := ⟨.hbm, 801, rfl⟩
abbrev main_v503 : Ref sig .tc := ⟨.hbm, 802, rfl⟩
abbrev main_v504 : Ref sig .tc := ⟨.hbm, 803, rfl⟩
abbrev main_c_175 : Ref sig .tc := ⟨.hbm, 804, rfl⟩
abbrev main_v505 : Ref sig .tc := ⟨.hbm, 805, rfl⟩
abbrev main_v506 : Ref sig .tc := ⟨.hbm, 806, rfl⟩
abbrev main_c_176 : Ref sig .tc := ⟨.hbm, 807, rfl⟩
abbrev main_v507 : Ref sig .tc := ⟨.hbm, 808, rfl⟩
abbrev main_v508 : Ref sig .tc := ⟨.hbm, 809, rfl⟩
abbrev main_v509 : Ref sig .tc := ⟨.hbm, 810, rfl⟩
abbrev main_c_177 : Ref sig .tc := ⟨.hbm, 811, rfl⟩
abbrev main_v510 : Ref sig .tc := ⟨.hbm, 812, rfl⟩
abbrev main_v511 : Ref sig .tc := ⟨.hbm, 813, rfl⟩
abbrev main_c_178 : Ref sig .tc := ⟨.hbm, 814, rfl⟩
abbrev main_v512 : Ref sig .tc := ⟨.hbm, 815, rfl⟩
abbrev main_v513 : Ref sig .tc := ⟨.hbm, 816, rfl⟩
abbrev main_v514 : Ref sig .tc := ⟨.hbm, 817, rfl⟩
abbrev main_v515 : Ref sig .tc := ⟨.hbm, 818, rfl⟩
abbrev main_v516 : Ref sig .tc := ⟨.hbm, 819, rfl⟩
abbrev main_v517 : Ref sig .tc := ⟨.hbm, 820, rfl⟩
abbrev main_v518 : Ref sig .tc := ⟨.hbm, 821, rfl⟩
abbrev main_v519 : Ref sig .tc := ⟨.hbm, 822, rfl⟩
abbrev main_v520 : Ref sig .tc := ⟨.hbm, 823, rfl⟩
abbrev main_v521 : Ref sig .tc := ⟨.hbm, 824, rfl⟩
abbrev main_v522 : Ref sig .tc := ⟨.hbm, 825, rfl⟩
abbrev main_v523 : Ref sig .tc := ⟨.hbm, 826, rfl⟩
abbrev main_v524 : Ref sig .tc := ⟨.hbm, 827, rfl⟩
abbrev main_v525 : Ref sig .tc := ⟨.hbm, 828, rfl⟩
abbrev main_v526 : Ref sig .tc := ⟨.hbm, 829, rfl⟩
abbrev main_v527 : Ref sig .tc := ⟨.hbm, 830, rfl⟩

abbrev nD : Nat := 1
abbrev τ : Topo := Topo.v7x

variable {F : FTy → Type} [FloatOps F]
-- ==== Proof.Pieces.lean ====
/-
  The kernel's body as one family of stores. The printed body computes, for every channel `c` and every group
  `q` of 256 columns, one block of the output; the 48 stores differ in `c` and `q` only. This module names the
  value of the store at `(c, q)` once and states that the body's result is the list of those stores.
-/
module

public import proofs.«01_k».proof.Proof.Gen.KernelIdeal.Frame
public import Idealize.ShloMosaic.Lib.Pipeline.Value

@[expose] public section

set_option maxRecDepth 16384

noncomputable section

namespace Cert.KernelIdeal.Slice

open Cert.KernelIdeal Cert.KernelIdeal.Gen Idealize.ShloMosaic Idealize.ShloMosaic.TcCoe Idealize.SL.Sem

variable {F : FTy → Type} [FloatOps F]

/-- The 16 × 16 plane of channel `c` at depth `d` lies inside the grid's block. -/
theorem plane_inb (c : Fin 12) (d : Fin 8) :
    ∀ a, (![0, c.val, d.val, 0, 0] : Fin 5 → Nat) a + S1x1x1x16x16.size a ≤ S1x12x8x16x16.size a := by
  revert c d; decide

/-- The rectangle of channel `c`'s plane at depth `d`. -/
abbrev planeRect (c : Fin 12) (d : Fin 8) : Rect S1x12x8x16x16 :=
  Rect.unit (s := S1x12x8x16x16) ![0, c.val, d.val, 0, 0] S1x1x1x16x16.size (plane_inb c d)

/-- Column group `q` lies inside the guidance block. -/
theorem guide_inb (q : Fin 4) :
    ∀ a, (![0, 0, 0, 256 * q.val] : Fin 4 → Nat) a + S1x1x128x256.size a ≤ S1x1x128x1024.size a := by
  revert q; decide

/-- The rectangle of column group `q` of the guidance block. -/
abbrev guideRect (q : Fin 4) : Rect S1x1x128x1024 :=
  Rect.unit (s := S1x1x128x1024) ![0, 0, 0, 256 * q.val] S1x1x128x256.size (guide_inb q)

/-- Channel `c`, column group `q`, lies inside the output block. -/
theorem out_inb (c : Fin 12) (q : Fin 4) :
    ∀ a, (![0, c.val, 0, 256 * q.val] : Fin 4 → Nat) a + S1x1x128x256.size a ≤ S1x12x128x1024.size a := by
  revert c q; decide

/-- The rectangle of channel `c`, column group `q`, of the output block. -/
abbrev outRect (c : Fin 12) (q : Fin 4) : Rect S1x12x128x1024 :=
  Rect.unit (s := S1x12x128x1024) ![0, c.val, 0, 256 * q.val] S1x1x128x256.size (out_inb c q)

/-- Column group `q` is a slice of the column weights. -/
theorem cols_slices (q : Fin 4) : S16x1024.Slices ![0, 256 * q.val] S16x256 := by
  revert q; decide

/-- Channel `c`'s plane at depth `d`, as a matrix. -/
def plane (x0 : Vec F S1x12x8x16x16 .f32) (c : Fin 12) (d : Fin 8) : FVec F S16x16 .f32 :=
  shapeCast S16x16 (View.ld x0 (planeRect c d)) shapeCasts_S1x1x1x16x16_S16x16

/-- Column group `q` of the guidance block, as a matrix. -/
def guide (x1 : Vec F S1x1x128x1024 .f32) (q : Fin 4) : FVec F S128x256 .f32 :=
  shapeCast S128x256 (View.ld x1 (guideRect q)) shapeCasts_S1x1x128x256_S128x256

/-- The block of row weights. -/
def rowW (x2 : Vec F S128x16 .f32) : FVec F S128x16 .f32 :=
  shapeCast S128x16 (View.ld x2 r0_0) shapeCasts_S128x16_S128x16

/-- The row weights times the plane of channel `c` at depth `d`: the rows interpolated. -/
def rowsAt (x0 : Vec F S1x12x8x16x16 .f32) (x2 : Vec F S128x16 .f32) (c : Fin 12) (d : Fin 8) : FVec F S128x16 .f32 :=
  matmul dot_S128x16_S16x16_S128x16_1_0_0_1_n_n none
    (rowW x2) (plane x0 c d) (constant S128x16 .f32 0x00000000#32)

/-- The depth coordinate of every pixel of column group `q`. -/
def depthAt (x1 : Vec F S1x1x128x1024 .f32) (q : Fin 4) : FVec F S128x256 .f32 :=
  addf (mulf (guide x1 q)
      (broadcast S128x256 (Scalar.ofBits .f32 0x40600000#32)))
    (broadcast S128x256 (Scalar.ofBits .f32 0x40600000#32))

/-- The hat function round the depth that the word `w` spells, at every pixel of column group `q`. -/
def hatAt (x1 : Vec F S1x1x128x1024 .f32) (q : Fin 4) (w : BitVec 32) : FVec F S128x256 .f32 :=
  maximumf (broadcast S128x256 (Scalar.ofBits .f32 0x00000000#32))
    (subf (broadcast S128x256 (Scalar.ofBits .f32 0x3F800000#32))
      (absf (subf (depthAt x1 q) (broadcast S128x256 (Scalar.ofBits .f32 w)))))

/-- The column weights of column group `q`. -/
def colsAt (x3 : Vec F S16x1024 .f32) (q : Fin 4) : FVec F S16x256 .bf16 :=
  extractStridedSlice S16x256 ![0, 256 * q.val]
    (truncf .bf16 (shapeCast S16x1024 (View.ld x3 r0_1) shapeCasts_S16x1024_S16x1024) bitsLt_bf16_f32) (cols_slices q)

/-- A row-interpolated plane times the column weights of group `q`. -/
def planeAt (x3 : Vec F S16x1024 .f32) (q : Fin 4) (t : FVec F S128x16 .f32) : FVec F S128x256 .f32 :=
  matmul dot_S128x16_S16x256_S128x256_1_0_0_1_n_n none (truncf .bf16 t bitsLt_bf16_f32) (colsAt x3 q)
    (constant S128x256 .f32 0x00000000#32)

/-- The hat round depth `w` times the difference of depth `d`'s plane and depth 5's. -/
def termAt (x0 : Vec F S1x12x8x16x16 .f32) (x1 : Vec F S1x1x128x1024 .f32) (x2 : Vec F S128x16 .f32) (x3 : Vec F S16x1024 .f32)
    (c : Fin 12) (q : Fin 4) (d : Fin 8) (w : BitVec 32) : FVec F S128x256 .f32 :=
  mulf (hatAt x1 q w) (planeAt x3 q (subf (rowsAt x0 x2 c d) (rowsAt x0 x2 c 5)))

/-- The block that the body stores for channel `c` and column group `q`. -/
def blockAt (x0 : Vec F S1x12x8x16x16 .f32) (x1 : Vec F S1x1x128x1024 .f32) (x2 : Vec F S128x16 .f32) (x3 : Vec F S16x1024 .f32)
    (c : Fin 12) (q : Fin 4) : FVec F S1x1x128x256 .f32 :=
  shapeCast S1x1x128x256
    (addf (addf (addf (addf (planeAt x3 q (rowsAt x0 x2 c 5))
      (termAt x0 x1 x2 x3 c q 3 0x40400000#32)) (termAt x0 x1 x2 x3 c q 4 0x40800000#32))
      (termAt x0 x1 x2 x3 c q 6 0x40C00000#32)) (termAt x0 x1 x2 x3 c q 7 0x40E00000#32))
    shapeCasts_S128x256_S1x1x128x256

/-- All the body's stores, the last one first: column groups 3 to 0, and in each the channels 11 to 0. -/
def pieces (x0 : Vec F S1x12x8x16x16 .f32) (x1 : Vec F S1x1x128x1024 .f32) (x2 : Vec F S128x16 .f32) (x3 : Vec F S16x1024 .f32) :
    List (View.Piece (Elt F) S1x12x128x1024 .f32) :=
  ([3, 2, 1, 0] : List (Fin 4)).flatMap fun q =>
    ([11, 10, 9, 8, 7, 6, 5, 4, 3, 2, 1, 0] : List (Fin 12)).map fun c => ⟨outRect c q, blockAt x0 x1 x2 x3 c q⟩

/-- The body's result is the canon of those stores. -/
theorem out_eq_pieces (x0 : Vec F S1x12x8x16x16 .f32) (x1 : Vec F S1x1x128x1024 .f32) (x2 : Vec F S128x16 .f32) (x3 : Vec F S16x1024 .f32) :
    out0_4 x0 x1 x2 x3 = View.canon (pieces x0 x1 x2 x3) := by
  rfl

end Cert.KernelIdeal.Slice

end
-- ==== Proof.BlockValue.lean ====
/-
  What one store of the body holds at a pixel, in real arithmetic.
-/
module

public import proofs.«01_k».proof.Proof.Pieces
public import Idealize.ShloMosaic.Lib.Pointwise
public import Idealize.ShloMosaic.Lib.Pipeline.ValueKit

@[expose] public section

set_option maxRecDepth 16384

noncomputable section

namespace Cert.KernelIdeal.Slice

open Cert.KernelIdeal Cert.KernelIdeal.Gen Idealize.ShloMosaic Idealize.ShloMosaic.TcCoe Idealize.SL.Sem

/-- A plane's block, as a matrix, at an index. -/
theorem cast_plane (x : FVec Ideal S1x1x1x16x16 .f32) (k l : Fin 16) :
    shapeCast S16x16 x shapeCasts_S1x1x1x16x16_S16x16 (ix2 k l) = x (ix5 0 0 0 k l) := by
  pointwise

/-- A guidance tile, as a matrix, at an index. -/
theorem cast_guide (x : FVec Ideal S1x1x128x256 .f32) (p : Fin 128) (s : Fin 256) :
    shapeCast S128x256 x shapeCasts_S1x1x128x256_S128x256 (ix2 p s) = x (ix4 0 0 p s) := by
  pointwise

/-- A guidance tile is a stretch of the guidance block's columns. -/
theorem ld_guide (x1 : Vec Ideal S1x1x128x1024 .f32) (q : Fin 4) (p : Fin 128) (s : Fin 256) :
    View.ld x1 (guideRect q) (ix4 0 0 p s) = x1 (ix4 0 0 p ⟨256 * q + s, by omega⟩) := by
  pointwise

/-- Entry `(k, l)` of channel `c`'s plane at depth `d`. -/
theorem plane_apply (x0 : Vec Ideal S1x12x8x16x16 .f32) (c : Fin 12) (d : Fin 8) (k l : Fin 16) :
    plane x0 c d (ix2 k l) = x0 (ix5 0 c d k l) := by
  refine Eq.trans (b := View.ld x0 (planeRect c d) (ix5 0 0 0 k l)) ?_ ?_
  · exact cast_plane _ k l
  · refine congrArg x0 (funext fun a => Fin.ext ?_)
    fin_cases a <;> simp [planeRect, Rect.unit]

/-- Entry `(p, s)` of column group `q` of the guidance block. -/
theorem guide_apply (x1 : Vec Ideal S1x1x128x1024 .f32) (q : Fin 4) (p : Fin 128) (s : Fin 256)
    (w : Fin 1024) (hw : (w : ℕ) = 256 * q + s) : guide x1 q (ix2 p s) = x1 (ix4 0 0 p w) := by
  have hlt : 256 * (q : ℕ) + s < 1024 := by omega
  obtain rfl : w = ⟨256 * q + s, hlt⟩ := Fin.ext hw
  refine Eq.trans (b := View.ld x1 (guideRect q) (ix4 0 0 p s)) ?_ ?_
  · exact cast_guide _ p s
  · exact ld_guide x1 q p s

/-- The row weights are read whole. -/
theorem rowW_apply (x2 : Vec Ideal S128x16 .f32) (p : Fin 128) (k : Fin 16) : rowW x2 (ix2 p k) = x2 (ix2 p k) := by
  pointwise [rowW]

/-- An entry of the row-interpolated plane. -/
theorem rowsAt_apply (x0 : Vec Ideal S1x12x8x16x16 .f32) (x2 : Vec Ideal S128x16 .f32)
    (c : Fin 12) (d : Fin 8) (p : Fin 128) (l : Fin 16) :
    rowsAt x0 x2 c d (ix2 p l) = ∑ k : Fin 16, x2 (ix2 p k) * x0 (ix5 0 c d k l) := by
  refine Eq.trans (b := ∑ k : Fin 16, rowW x2 (ix2 p k) * plane x0 c d (ix2 k l)) ?_ ?_
  · generalize hA : rowW x2 = A
    generalize hB : plane x0 c d = B
    unfold rowsAt; rw [hA, hB]; pointwise
  · simp only [rowW_apply, plane_apply]

/-- An entry of a plane, interpolated along the columns too. -/
theorem planeAt_apply (x3 : Vec Ideal S16x1024 .f32) (q : Fin 4) (t : FVec Ideal S128x16 .f32)
    (p : Fin 128) (s : Fin 256) (w : Fin 1024) (hw : (w : ℕ) = 256 * q + s) :
    planeAt x3 q t (ix2 p s) = ∑ k : Fin 16, t (ix2 p k) * x3 (ix2 k w) := by
  have hlt : 256 * (q : ℕ) + s < 1024 := by omega
  obtain rfl : w = ⟨256 * q + s, hlt⟩ := Fin.ext hw
  pointwise [planeAt, colsAt]

/-- The real number that a pixel's depth coordinate is. -/
def zOf (g : ℝ) : ℝ := g * 3.5 + 3.5

/-- The hat function round `n`. -/
def hat (n z : ℝ) : ℝ := max 0 (1 - |z - n|)

/-- The word 0x40600000 spells 3.5. -/
theorem ofBits_35 : Ideal.ofBits .f32 0x40600000#32 = ((3.5 : ℝ) : EReal) := by
  simp [Ideal.ofBits, Ideal.ieee, -EReal.coe_mul]; norm_num

/-- The words of the four depths that the body names spell 3, 4, 6 and 7. -/
theorem ofBits_depths : Ideal.ofBits .f32 0x40400000#32 = ((3 : ℝ) : EReal) ∧ Ideal.ofBits .f32 0x40800000#32 = ((4 : ℝ) : EReal)
    ∧ Ideal.ofBits .f32 0x40C00000#32 = ((6 : ℝ) : EReal) ∧ Ideal.ofBits .f32 0x40E00000#32 = ((7 : ℝ) : EReal) := by
  refine ⟨?_, ?_, ?_, ?_⟩ <;> simp [Ideal.ofBits, Ideal.ieee, -EReal.coe_mul] <;> norm_num

/-- The hat at a pixel whose guidance is a real number. -/
theorem hatAt_apply (x1 : Vec Ideal S1x1x128x1024 .f32) (q : Fin 4) (b : BitVec 32) (n : ℝ) (hb : Ideal.ofBits .f32 b = (n : EReal))
    (p : Fin 128) (s : Fin 256) (w : Fin 1024) (hw : (w : ℕ) = 256 * q + s)
    (g : ℝ) (hx : x1 (ix4 0 0 p w) = (g : EReal)) :
    hatAt x1 q b (ix2 p s) = (hat n (zOf g) : EReal) := by
  have hg := guide_apply x1 q p s w hw
  rw [hx] at hg
  unfold hatAt depthAt
  generalize guide x1 q = A at hg ⊢
  pointwise
  rw [hg, hb, ofBits_35, hat, zOf]
  show max 0 (1 - max ((g : EReal) * (3.5 : ℝ) + (3.5 : ℝ) - (n : EReal)) (-((g : EReal) * (3.5 : ℝ) + (3.5 : ℝ) - (n : EReal)))) = _
  norm_cast

/-- A plane `A` interpolated along its rows by the weights `wy` and along its columns by the weights `wx`. -/
def bil (wy wx : Fin 16 → ℝ) (A : Fin 16 → Fin 16 → ℝ) : ℝ := ∑ l : Fin 16, (∑ k : Fin 16, wy k * A k l) * wx l

/-- The body's value at a pixel: depth 5's plane, and for the other four depths the hat times the difference. -/
def pixel (wy wx : Fin 16 → ℝ) (A : Fin 8 → Fin 16 → Fin 16 → ℝ) (g : ℝ) : ℝ :=
  bil wy wx (A 5) + hat 3 (zOf g) * (bil wy wx (A 3) - bil wy wx (A 5)) + hat 4 (zOf g) * (bil wy wx (A 4) - bil wy wx (A 5))
    + hat 6 (zOf g) * (bil wy wx (A 6) - bil wy wx (A 5)) + hat 7 (zOf g) * (bil wy wx (A 7) - bil wy wx (A 5))

/-- The coercion of a finite sum of real numbers. -/
theorem coe_sum16 (f : Fin 16 → ℝ) : ((∑ k, f k : ℝ) : EReal) = ∑ k, (f k : EReal) :=
  map_sum (⟨⟨Real.toEReal, EReal.coe_zero⟩, EReal.coe_add⟩ : ℝ →+ EReal) f Finset.univ

section Real

variable (x0 : Vec Ideal S1x12x8x16x16 .f32) (x1 : Vec Ideal S1x1x128x1024 .f32) (x2 : Vec Ideal S128x16 .f32) (x3 : Vec Ideal S16x1024 .f32)
  (c : Fin 12) (q : Fin 4) (p : Fin 128) (s : Fin 256) (w : Fin 1024) (hw : (w : ℕ) = 256 * q + s)
  (A : Fin 8 → Fin 16 → Fin 16 → ℝ) (hA : ∀ d k l, x0 (ix5 0 c d k l) = (A d k l : EReal))
  (g : ℝ) (hg : x1 (ix4 0 0 p w) = (g : EReal))
  (wy : Fin 16 → ℝ) (hy : ∀ k, x2 (ix2 p k) = (wy k : EReal))
  (wx : Fin 16 → ℝ) (hx : ∀ l, x3 (ix2 l w) = (wx l : EReal))

include hA hy in
/-- The row-interpolated plane in real numbers. -/
theorem rowsAt_real (d : Fin 8) (l : Fin 16) : rowsAt x0 x2 c d (ix2 p l) = ((∑ k, wy k * A d k l : ℝ) : EReal) := by
  rw [rowsAt_apply, coe_sum16]
  simp only [hA, hy, EReal.coe_mul]

include hx hw in
/-- A plane interpolated along the columns too, in real numbers. -/
theorem planeAt_real (t : FVec Ideal S128x16 .f32) (r : Fin 16 → ℝ) (ht : ∀ l, t (ix2 p l) = (r l : EReal)) :
    planeAt x3 q t (ix2 p s) = ((∑ l, r l * wx l : ℝ) : EReal) := by
  rw [planeAt_apply x3 q t p s w hw, coe_sum16]
  simp only [hx, ht, EReal.coe_mul]

include hA hy hx hg hw in
/-- One depth's term in real numbers. -/
theorem termAt_real (d : Fin 8) (b : BitVec 32) (n : ℝ) (hb : Ideal.ofBits .f32 b = (n : EReal)) :
    termAt x0 x1 x2 x3 c q d b (ix2 p s) = ((hat n (zOf g) * (bil wy wx (A d) - bil wy wx (A 5)) : ℝ) : EReal) := by
  have hr : ∀ l, subf (rowsAt x0 x2 c d) (rowsAt x0 x2 c 5) (ix2 p l) = ((∑ k, wy k * A d k l - ∑ k, wy k * A 5 k l : ℝ) : EReal) := by
    intro l
    show rowsAt x0 x2 c d (ix2 p l) - rowsAt x0 x2 c 5 (ix2 p l) = _
    rw [rowsAt_real x0 x2 c p A hA wy hy, rowsAt_real x0 x2 c p A hA wy hy, EReal.coe_sub]
  show hatAt x1 q b (ix2 p s) * planeAt x3 q _ (ix2 p s) = _
  rw [hatAt_apply x1 q b n hb p s w hw g hg, planeAt_real x3 q p s w hw wx hx _ _ hr, ← EReal.coe_mul]
  simp only [bil, sub_mul, Finset.sum_sub_distrib]

include hA hy hx hg hw in
/-- **What the store at channel `c` and column group `q` holds at a pixel.** -/
theorem blockAt_real : blockAt x0 x1 x2 x3 c q (ix4 0 0 p s) = (pixel wy wx A g : EReal) := by
  obtain ⟨h3, h4, h6, h7⟩ := ofBits_depths
  have e : ∀ v : FVec Ideal S128x256 .f32, shapeCast S1x1x128x256 v shapeCasts_S128x256_S1x1x128x256 (ix4 0 0 p s) = v (ix2 p s) := by
    intro v; pointwise
  refine (e _).trans ?_
  show planeAt x3 q (rowsAt x0 x2 c 5) (ix2 p s) + termAt x0 x1 x2 x3 c q 3 0x40400000#32 (ix2 p s) + termAt x0 x1 x2 x3 c q 4 0x40800000#32 (ix2 p s)
    + termAt x0 x1 x2 x3 c q 6 0x40C00000#32 (ix2 p s) + termAt x0 x1 x2 x3 c q 7 0x40E00000#32 (ix2 p s) = _
  rw [planeAt_real x3 q p s w hw wx hx _ _ (rowsAt_real x0 x2 c p A hA wy hy 5),
    termAt_real x0 x1 x2 x3 c q p s w hw A hA g hg wy hy wx hx 3 _ 3 h3, termAt_real x0 x1 x2 x3 c q p s w hw A hA g hg wy hy wx hx 4 _ 4 h4,
    termAt_real x0 x1 x2 x3 c q p s w hw A hA g hg wy hy wx hx 6 _ 6 h6, termAt_real x0 x1 x2 x3 c q p s w hw A hA g hg wy hy wx hx 7 _ 7 h7]
  simp only [← EReal.coe_add]
  rfl

end Real

end Cert.KernelIdeal.Slice

end
-- ==== Proof.OutValue.lean ====
/-
  The whole block that the body leaves, at a pixel: the 48 stores put together.
-/
module

public import proofs.«01_k».proof.Proof.BlockValue

@[expose] public section

set_option maxRecDepth 16384

noncomputable section

namespace Cert.KernelIdeal.Slice

open Cert.KernelIdeal Cert.KernelIdeal.Gen Idealize.ShloMosaic Idealize.ShloMosaic.TcCoe Idealize.SL.Sem

/-- The store at channel `c` and column group `q` puts its tile's pixel `(p, s)` at column `256 q + s`. -/
theorem outRect_emb (c : Fin 12) (q : Fin 4) (p : Fin 128) (s : Fin 256) (w : Fin 1024) (hw : (w : ℕ) = 256 * q + s) :
    (outRect c q).emb (ix4 0 0 p s) = ix4 0 c p w := by
  refine funext fun a => Fin.ext ?_
  refine (Rect.emb_apply _ _ a).trans ?_
  fin_cases a
  · rfl
  · show (c : ℕ) + 1 * 0 = c; omega
  · show 0 + 1 * (p : ℕ) = p; omega
  · show 256 * (q : ℕ) + 1 * s = w; omega

/-- **The body's result at a pixel.** -/
theorem out_real (x0 : Vec Ideal S1x12x8x16x16 .f32) (x1 : Vec Ideal S1x1x128x1024 .f32) (x2 : Vec Ideal S128x16 .f32) (x3 : Vec Ideal S16x1024 .f32)
    (A : Fin 12 → Fin 8 → Fin 16 → Fin 16 → ℝ) (hA : ∀ c d k l, x0 (ix5 0 c d k l) = (A c d k l : EReal))
    (g : Fin 128 → Fin 1024 → ℝ) (hg : ∀ p w, x1 (ix4 0 0 p w) = (g p w : EReal))
    (wy : Fin 128 → Fin 16 → ℝ) (hy : ∀ p k, x2 (ix2 p k) = (wy p k : EReal))
    (wx : Fin 1024 → Fin 16 → ℝ) (hx : ∀ w l, x3 (ix2 l w) = (wx w l : EReal))
    (c : Fin 12) (p : Fin 128) (w : Fin 1024) :
    out0_4 x0 x1 x2 x3 (ix4 0 c p w) = (pixel (wy p) (wx w) (A c) (g p w) : EReal) := by
  rw [out_eq_pieces]
  refine View.canon_apply_of_pieces (fun y : S1x12x128x1024.Idx => ((pixel (wy (y 2)) (wx (y 3)) (A (y 1)) (g (y 2) (y 3)) : ℝ) : EReal))
    (pieces x0 x1 x2 x3) ?_ (ix4 0 c p w) ?_
  · intro P hP x
    obtain ⟨q, _, hP⟩ := List.mem_flatMap.1 hP
    obtain ⟨c, _, rfl⟩ := List.mem_map.1 hP
    obtain ⟨u, v, p, s, rfl⟩ : ∃ (u v : Fin 1) (p : Fin 128) (s : Fin 256), x = ix4 u v p s := ⟨x 0, x 1, x 2, x 3, eq_ix4 x⟩
    obtain rfl : u = 0 := Subsingleton.elim _ _
    obtain rfl : v = 0 := Subsingleton.elim _ _
    have hlt : 256 * (q : ℕ) + s < 1024 := by omega
    have he := outRect_emb c q p s ⟨256 * q + s, hlt⟩ rfl
    dsimp only
    rw [he]
    exact blockAt_real x0 x1 x2 x3 c q p s ⟨256 * q + s, hlt⟩ rfl (A c) (hA c) _ (hg p _) _ (hy p) _ (hx _)
  · have hq : (w : ℕ) / 256 < 4 := by omega
    have hs : (w : ℕ) % 256 < 256 := by omega
    refine ⟨⟨outRect c ⟨w / 256, hq⟩, blockAt x0 x1 x2 x3 c ⟨w / 256, hq⟩⟩, ?_, ?_⟩
    · refine List.mem_flatMap.2 ⟨⟨w / 256, hq⟩, ?_, List.mem_map.2 ⟨c, ?_, rfl⟩⟩
      · generalize (⟨w / 256, hq⟩ : Fin 4) = q; revert q; decide
      · revert c; decide
    · have he := outRect_emb c ⟨w / 256, hq⟩ p ⟨w % 256, hs⟩ w (by show (w : ℕ) = 256 * (w / 256) + w % 256; omega)
      rw [← he]
      rw [← Rect.map_emb_univ]
      exact Finset.mem_map_of_mem _ (Finset.mem_univ _)

end Cert.KernelIdeal.Slice

end
-- ==== Proof.Words.lean ====
/-
  Facts of real numbers, words and bit patterns that both programs need: the coordinate of a pixel on the grid's
  axis, its grid line, and how small whole numbers pass between the float and the integer types.
-/
module

public import Idealize.ShloMosaic.PureOps.Ideal
public import Idealize.ShloMosaic.Lib.IdealHost

@[expose] public section

noncomputable section

namespace Cert.Slice

open Idealize.ShloMosaic

/-- The word 0x41700000 spells 15. -/
theorem ofBits_15 : Ideal.ofBits .f32 0x41700000#32 = ((15 : ℝ) : EReal) := by
  simp [Ideal.ofBits, Ideal.ieee, -EReal.coe_mul]; norm_num

/-- The word 0x447FC000 spells 1023. -/
theorem ofBits_1023 : Ideal.ofBits .f32 0x447FC000#32 = ((1023 : ℝ) : EReal) := by
  simp [Ideal.ofBits, Ideal.ieee, -EReal.coe_mul]; norm_num

/-- The word 0x40000000 spells 2. -/
theorem ofBits_2 : Ideal.ofBits .f32 0x40000000#32 = ((2 : ℝ) : EReal) := by
  simp [Ideal.ofBits, Ideal.ieee, -EReal.coe_mul]; norm_num

/-- The word 0x3F000000 spells one half. -/
theorem ofBits_half : Ideal.ofBits .f32 0x3F000000#32 = ((1 / 2 : ℝ) : EReal) := by
  simp [Ideal.ofBits, Ideal.ieee, -EReal.coe_mul]; norm_num

/-- The word 0x40E00000 spells 7. -/
theorem ofBits_7 : Ideal.ofBits .f32 0x40E00000#32 = ((7 : ℝ) : EReal) := by
  simp [Ideal.ofBits, Ideal.ieee, -EReal.coe_mul]; norm_num

/-- Pixel `i`'s coordinate on an axis of 16 grid lines that 1024 pixels span. -/
def pos (i : ℕ) : ℝ := (i : ℝ) * 15 / 1023

/-- The grid line at or below pixel `i`. -/
def line (i : ℕ) : ℕ := i * 15 / 1023

/-- A pixel's grid line is the floor of its coordinate. -/
theorem floor_pos (i : ℕ) : ⌊pos i⌋ = (line i : ℤ) := by
  rw [Int.floor_eq_iff]
  have h1 : (line i * 1023 : ℕ) ≤ i * 15 := Nat.div_mul_le_self _ _
  have h2 : i * 15 < (line i + 1) * 1023 := by unfold line; omega
  have h1' : (line i : ℝ) * 1023 ≤ (i : ℝ) * 15 := by exact_mod_cast h1
  have h2' : (i : ℝ) * 15 < ((line i : ℝ) + 1) * 1023 := by exact_mod_cast h2
  unfold pos
  constructor
  · rw [le_div_iff₀ (by norm_num)]; exact_mod_cast h1'
  · rw [div_lt_iff₀ (by norm_num)]; exact_mod_cast h2'

/-- A quotient of real numbers, the divisor not zero. -/
theorem div_real (x y : ℝ) (h : y ≠ 0) : Ideal.div (x : EReal) (y : EReal) = ((x / y : ℝ) : EReal) := by
  rw [Ideal.div_coe h, ← EReal.coe_mul, mul_one_div]

/-- A small whole number's word, read signed. -/
theorem toInt_small (n : ℕ) (hn : n < 2 ^ 31) : (BitVec.ofNat 32 n).toInt = (n : ℤ) := by
  rw [BitVec.toInt_eq_toNat_cond, BitVec.toNat_ofNat, Nat.mod_eq_of_lt (by omega)]
  rw [if_pos (by omega)]

/-- The conversion of a small whole number to a word. -/
theorem fptosi_nat (n : ℕ) (hn : n < 2 ^ 31) : Ideal.fptosi 32 ((n : ℝ) : EReal) = BitVec.ofNat 32 n := by
  rw [Ideal.fptosi, Ideal.toIntClamped_coe, if_pos (Nat.cast_nonneg n), Int.floor_natCast]
  have h : max (-((2 ^ (32 - 1) : ℕ) : ℤ)) (min (((2 ^ (32 - 1) : ℕ) : ℤ) - 1) (n : ℤ)) = (n : ℤ) := by norm_num; omega
  rw [h, BitVec.ofInt_natCast]

/-- A whole number clipped to `[0, b]`. -/
theorem clip_nat (b n : ℕ) : min ((b : ℝ) : EReal) (max ((0 : ℝ) : EReal) ((n : ℝ) : EReal)) = (((min b n : ℕ) : ℝ) : EReal) := by
  rw [max_eq_right (by exact_mod_cast Nat.zero_le n), Nat.cast_min]
  exact (EReal.coe_strictMono.monotone.map_min).symm

end Cert.Slice

end
-- ==== Proof.Weights.lean ====
/-
  The interpolation weights that the kernel's host part computes: one matrix, used for the rows as it is and for
  the columns transposed.
-/
module

public import proofs.«01_k».proof.Proof.Gen.KernelIdeal.Value
public import proofs.«01_k».proof.Proof.Words
public import Idealize.ShloMosaic.Lib.Pointwise
public import Idealize.ShloMosaic.Lib.Claim
public import Idealize.ShloMosaic.Lib.Pipeline.ValueKit

@[expose] public section

set_option maxRecDepth 16384

noncomputable section

namespace Cert.KernelIdeal.Slice

open Cert.KernelIdeal Cert.KernelIdeal.Gen Idealize.ShloMosaic Idealize.ShloMosaic.TcCoe Idealize.SL.Sem

section
variable {F : FTy → Type} [FloatOps F]

/-- A 32-bit float constant, repeated for all 1024 pixels of an axis. -/
def splat (b : BitVec 32) : FVec F S1024 .f32 := broadcastInDim S1024 ![] bcast_S_S1024 (constant S_ .f32 b)

/-- Every pixel's coordinate on the grid's axis of 16. -/
def coord : FVec F S1024 .f32 :=
  Host.divf (mulf (sitofp .f32 (iotaInDim S1024 32 0)) (splat 0x41700000#32)) (splat 0x447FC000#32)

/-- The lower grid line of every pixel, at most 14. -/
def lower : IVec S1024 32 :=
  fptosi 32 (minimumf (broadcastInDim S1024 ![] bcast_S_S1024 (sitofp (F := F) .f32 (constantI S_ 32 14#32)))
    (maximumf (broadcastInDim S1024 ![] bcast_S_S1024 (sitofp .f32 (constantI S_ 32 0#32))) (Host.floor coord)))

/-- How far every pixel lies past its lower grid line. -/
def frac : FVec F S1024 .f32 := subf coord (sitofp .f32 (lower (F := F)))

/-- A vector of pixels repeated along the 16 grid lines. -/
def spread {e : Type} (v : S1024.Idx → e) : S1024x16.Idx → e :=
  broadcastInDim S1024x16 ![0, 1] bcast_S1024x1_S1024x16_0_1 (broadcastInDim S1024x1 ![0] bcast_S1024_S1024x1_0 v)

/-- One at the grid line that the index names, zero elsewhere. -/
def oneHot (v : IVec S1024 32) : FVec F S1024x16 .f32 :=
  uitofp .f32 (cmpi .eq (spread v) (broadcastInDim S1024x16 ![0, 1] bcast_S1x16_S1024x16_0_1 (iotaInDim S1x16 32 1)))

/-- The 1024 × 16 matrix of weights. -/
def weights : FVec F S1024x16 .f32 :=
  addf (mulf (oneHot (lower (F := F))) (spread (subf (splat 0x3F800000#32) frac)))
    (mulf (oneHot (addi (lower (F := F)) (broadcastInDim S1024 ![] bcast_S_S1024 (constantI S_ 32 1#32)))) (spread frac))

variable (m : (ℓ : Loc nD τ sig) → Buf (Elt F) ℓ)

/-- The row weights' array when the kernel starts. -/
theorem V_rows (c : Dev nD) : V m c main_call0_v22 = (weights : FVec F S1024x16 .f32) := by
  simp only [V, hostOps0]
  after_results
  rfl

/-- The column weights' array when the kernel starts. -/
theorem V_cols (c : Dev nD) : V m c main_call0_v46 = (transpose S16x1024 [1, 0] (weights : FVec F S1024x16 .f32) transposes_S1024x16_S16x1024_1_0 : FVec F S16x1024 .f32) := by
  simp only [V, hostOps0]
  after_results
  rfl

end

/-- The lower of the two grid lines that a pixel is interpolated between. -/
def lo (i : ℕ) : ℕ := min 14 (Slice.line i)

/-- How far a pixel lies past that line. -/
def fr (i : ℕ) : ℝ := Slice.pos i - (lo i : ℝ)

/-- The weight of grid line `k` at pixel `i`. -/
def wt (i : ℕ) (k : Fin 16) : ℝ := (if lo i = (k : ℕ) then 1 else 0) * (1 - fr i) + (if lo i + 1 = (k : ℕ) then 1 else 0) * fr i

/-- The coordinate at a pixel. -/
theorem coord_apply (i : Fin 1024) : (coord (F := Ideal)) (ix1 i) = (Slice.pos i : EReal) := by
  pointwise [coord, splat]
  rw [Slice.ofBits_15, Slice.ofBits_1023]
  show Ideal.div ((((BitVec.ofNat 32 (i : ℕ)).toInt : ℝ) : EReal) * ((15 : ℝ) : EReal)) _ = _
  rw [Slice.toInt_small _ (by omega), ← EReal.coe_mul, Slice.div_real _ _ (by norm_num)]
  simp [Slice.pos]

/-- The lower grid line at a pixel. -/
theorem lower_apply (i : Fin 1024) : (lower (F := Ideal)) (ix1 i) = BitVec.ofNat 32 (lo i) := by
  have hc := coord_apply i
  unfold lower
  generalize coord (F := Ideal) = A at hc ⊢
  pointwise
  rw [hc, Ideal.liftRound_coe, Slice.floor_pos]
  show Ideal.fptosi 32 (min (((14#32).toInt : ℝ) : EReal) (max (((0#32).toInt : ℝ) : EReal) _)) = _
  have h14 : (((14#32).toInt : ℝ) : EReal) = (((14 : ℕ) : ℝ) : EReal) := by rw [show (14#32).toInt = 14 from rfl]; norm_num
  have h0 : (((0#32).toInt : ℝ) : EReal) = ((0 : ℝ) : EReal) := by norm_num
  rw [h14, h0, Int.cast_natCast, Slice.clip_nat, Slice.fptosi_nat _ (by omega)]
  rfl

/-- The distance past the lower grid line at a pixel. -/
theorem frac_apply (i : Fin 1024) : (frac (F := Ideal)) (ix1 i) = (fr i : EReal) := by
  have hc := coord_apply i
  have hl := lower_apply i
  unfold frac
  generalize coord (F := Ideal) = A at hc ⊢
  generalize lower (F := Ideal) = B at hl ⊢
  pointwise
  rw [hc, hl]
  show _ - (((BitVec.ofNat 32 (lo i)).toInt : ℝ) : EReal) = _
  rw [Slice.toInt_small _ (by unfold lo; omega), ← EReal.coe_sub, Int.cast_natCast, fr]

/-- The one-hot matrix at an index, when the pixel's line is the small number `n`. -/
theorem oneHot_apply (v : IVec S1024 32) (i : Fin 1024) (k : Fin 16) (n : ℕ) (hn : n < 16) (hv : v (ix1 i) = BitVec.ofNat 32 n) :
    (oneHot (F := Ideal) v) (ix2 i k) = (((if n = (k : ℕ) then 1 else 0 : ℝ)) : EReal) := by
  pointwise [oneHot, spread]
  rw [hv]
  have hk := k.isLt
  by_cases h : n = (k : ℕ)
  · subst h
    show ((((IntOp.cmpi CmpIPredicate.eq (BitVec.ofNat 32 (k : ℕ)) (BitVec.ofNat 32 (k : ℕ))).toNat : ℝ)) : EReal) = _
    simp [IntOp.cmpi]
  · have hne : BitVec.ofNat 32 n ≠ BitVec.ofNat 32 (k : ℕ) := by
      intro he
      have := congrArg BitVec.toNat he
      simp only [BitVec.toNat_ofNat] at this
      omega
    show ((((IntOp.cmpi CmpIPredicate.eq (BitVec.ofNat 32 n) (BitVec.ofNat 32 (k : ℕ))).toNat : ℝ)) : EReal) = _
    simp [IntOp.cmpi, hne, h]

/-- **The matrix of weights at an index.** -/
theorem weights_apply (i : Fin 1024) (k : Fin 16) : (weights (F := Ideal)) (ix2 i k) = (wt i k : EReal) := by
  have hl := lower_apply i
  have hf := frac_apply i
  have h1 := oneHot_apply (lower (F := Ideal)) i k (lo i) (by unfold lo; omega) hl
  have hl1 : addi (lower (F := Ideal)) (broadcastInDim S1024 ![] bcast_S_S1024 (constantI S_ 32 1#32)) (ix1 i) = BitVec.ofNat 32 (lo i + 1) := by
    generalize lower (F := Ideal) = B at hl ⊢
    pointwise
    rw [hl, BitVec.ofNat_add]
    rfl
  have h2 := oneHot_apply _ i k (lo i + 1) (by unfold lo; omega) hl1
  unfold weights
  generalize oneHot (F := Ideal) (lower (F := Ideal)) = P at h1 ⊢
  generalize oneHot (F := Ideal) (addi (lower (F := Ideal)) (broadcastInDim S1024 ![] bcast_S_S1024 (constantI S_ 32 1#32))) = Q at h2 ⊢
  generalize frac (F := Ideal) = A at hf ⊢
  pointwise [spread, splat]
  rw [h1, h2, hf, wt]
  push_cast
  norm_cast

/-- The transposed matrix of weights at an index. -/
theorem weightsT_apply (k : Fin 16) (i : Fin 1024) :
    (transpose S16x1024 [1, 0] (weights : FVec Ideal S1024x16 .f32) transposes_S1024x16_S16x1024_1_0 : FVec Ideal S16x1024 .f32) (ix2 k i) = (wt i k : EReal) := by
  refine Eq.trans ?_ (weights_apply i k)
  generalize weights (F := Ideal) = A
  pointwise

end Cert.KernelIdeal.Slice

end
-- ==== Proof.ArrayValue.lean ====
/-
  The kernel's whole output array in real numbers, when the grid and the guidance hold real numbers.
-/
module

public import proofs.«01_k».proof.Proof.OutValue
public import proofs.«01_k».proof.Proof.Weights

@[expose] public section

set_option maxRecDepth 16384

noncomputable section

namespace Cert.KernelIdeal.Slice

open Cert.KernelIdeal Cert.KernelIdeal.Gen Idealize.ShloMosaic Idealize.ShloMosaic.TcCoe Idealize.SL.Sem
open Idealize.ShloMosaic.Pipeline (Dat)

/-- Where the blocks of grid point `t` lie: image `t / 8`, row group `t % 8`. -/
theorem idx : ∀ t : Fin cfg0.N,
    win0_0.index t = ![t.val / 8, 0, 0, 0, 0] ∧ win0_1.index t = ![t.val / 8, 0, t.val % 8, 0] ∧ win0_2.index t = ![t.val % 8, 0]
      ∧ win0_3.index t = ![0, 0] ∧ win0_4.index t = ![t.val / 8, 0, t.val % 8, 0] :=
  (by decide +kernel : ∀ t : Fin grid0.N, _)

section Real

variable (m : (ℓ : Loc nD τ sig) → Buf (Elt Ideal) ℓ) (c : Dev nD)
  (A : Fin 4 → Fin 12 → Fin 8 → Fin 16 → Fin 16 → ℝ)
  (hA : ∀ b ch d k l, (m (c.tc.loc main_arg0) : FVec Ideal S4x12x8x16x16 .f32) (ix5 b ch d k l) = (A b ch d k l : EReal))
  (g : Fin 4 → Fin 1024 → Fin 1024 → ℝ)
  (hg : ∀ b y x, (m (c.tc.loc main_arg1) : FVec Ideal S4x1x1024x1024 .f32) (ix4 b 0 y x) = (g b y x : EReal))

/-- The output array as real numbers. -/
def sliced (A : Fin 4 → Fin 12 → Fin 8 → Fin 16 → Fin 16 → ℝ) (g : Fin 4 → Fin 1024 → Fin 1024 → ℝ)
    (b : Fin 4) (ch : Fin 12) (y x : Fin 1024) : ℝ :=
  pixel (wt y) (wt x) (A b ch) (g b y x)

include hA in
/-- The grid's block at point `t` is image `t / 8`. -/
theorem block_grid (t : Fin cfg0.N) (b : Fin 4) (hb : (b : ℕ) = t.val / 8) (ch : Fin 12) (d : Fin 8) (k l : Fin 16) :
    iblk m c 0 t (ix5 0 ch d k l) = (A b ch d k l : EReal) := by
  rw [← hA]
  blk_point [iblk, V, idx t]

include hg in
/-- The guidance block at point `t` is rows `128 (t % 8)` to `128 (t % 8) + 127` of image `t / 8`. -/
theorem block_guide (t : Fin cfg0.N) (b : Fin 4) (hb : (b : ℕ) = t.val / 8) (p : Fin 128) (y : Fin 1024) (hy : (y : ℕ) = t.val % 8 * 128 + p)
    (x : Fin 1024) : iblk m c 1 t (ix4 0 0 p x) = (g b y x : EReal) := by
  rw [← hg]
  blk_point [iblk, V, idx t]

/-- The row weights' block at point `t`. -/
theorem block_rows (t : Fin cfg0.N) (p : Fin 128) (y : Fin 1024) (hy : (y : ℕ) = t.val % 8 * 128 + p) (k : Fin 16) :
    iblk m c 2 t (ix2 p k) = (wt y k : EReal) := by
  rw [← weights_apply]
  blk_point [iblk, V_rows, idx t]

/-- The column weights' block is the whole array. -/
theorem block_cols (t : Fin cfg0.N) (l : Fin 16) (x : Fin 1024) :
    iblk m c 3 t (ix2 l x) = (wt x l : EReal) := by
  rw [← weightsT_apply]
  show (win0_3.blk t).view.read (Elt Ideal) (V m c main_call0_v46) (ix2 l x) = _
  rw [V_cols]
  generalize (transpose S16x1024 [1, 0] (weights : FVec Ideal S1024x16 .f32) transposes_S1024x16_S16x1024_1_0 : FVec Ideal S16x1024 .f32) = W
  blk_point [idx t]

include hA hg in
/-- **The kernel's output array.** -/
theorem array_real : (dats m 0 c).arrAt 4 cfg0.N = fun j : S4x12x1024x1024.Idx => ((sliced A g (j 0) (j 1) (j 2) (j 3) : ℝ) : EReal) := by
  refine (dats m 0 c).arrAt_eq_of_covers 4 _ (by decide +kernel) fun t _ y => ?_
  blk_simp [idx t]
  rw [after0_4]
  obtain ⟨u, ch, p, x, rfl⟩ : ∃ (u : Fin 1) (ch : Fin 12) (p : Fin 128) (x : Fin 1024), y = ix4 u ch p x := ⟨y 0, y 1, y 2, y 3, eq_ix4 y⟩
  obtain rfl : u = 0 := Subsingleton.elim _ _
  have ht : t.val < 32 := lt_of_lt_of_eq t.isLt N_0
  have hb : t.val / 8 < 4 := by omega
  have hr : t.val % 8 * 128 + p.val < 1024 := by omega
  have e0 : (win0_4.blk t).view.emb (ix4 0 ch p x) = ix4 ⟨t.val / 8, hb⟩ ch ⟨t.val % 8 * 128 + p.val, hr⟩ x := by
    blk_ext [idx t]
  have hrow : ∀ p : Fin 128, t.val % 8 * 128 + p.val < 1024 := fun p => by omega
  refine (out_real _ _ _ _ (A ⟨t.val / 8, hb⟩) (fun ch d k l => block_grid m c A hA t ⟨t.val / 8, hb⟩ rfl ch d k l)
    (fun p x => g ⟨t.val / 8, hb⟩ ⟨t.val % 8 * 128 + p.val, hrow p⟩ x)
    (fun p x => block_guide m c g hg t ⟨t.val / 8, hb⟩ rfl p ⟨t.val % 8 * 128 + p.val, hrow p⟩ rfl x)
    (fun p => wt (t.val % 8 * 128 + p.val)) (fun p k => block_rows m c t p ⟨t.val % 8 * 128 + p.val, hrow p⟩ rfl k)
    (fun x => wt x) (fun x l => block_cols m c t l x) ch p x).trans ?_
  rw [e0]
  rfl

end Real

end Cert.KernelIdeal.Slice

end
-- ==== Proof.Corners.lean ====
/-
  The reference's interpolation as a sum of eight corners. The eight corners differ only in which of the two grid
  lines they take along each axis; this module names one corner and states that the reference's result is the sum
  of the eight.
-/
module

public import proofs.«01_k».proof.Proof.Gen.ReferenceIdeal.Run
public import Idealize.ShloMosaic.Lib.Pointwise

@[expose] public section

set_option maxRecDepth 16384

noncomputable section

namespace Cert.ReferenceIdeal.Slice

open Cert.ReferenceIdeal Cert.ReferenceIdeal.Gen Cert.ReferenceIdeal.Value Idealize.ShloMosaic Idealize.ShloMosaic.TcCoe Idealize.SL.Sem

variable {F : FTy → Type} [FloatOps F]

/-- A float for every pixel. -/
abbrev Px (F : FTy → Type) := FVec F S4x1x1024x1024 .f32

/-- A float constant for every pixel. -/
def constPx (b : BitVec 32) : Px F := broadcastInDim S4x1x1024x1024 ![] bcast_S_S4x1x1024x1024 (constant S_ .f32 b)

/-- A whole-number constant for every pixel. -/
def constPxI (b : BitVec 32) : IVec S4x1x1024x1024 32 := broadcastInDim S4x1x1024x1024 ![] bcast_S_S4x1x1024x1024 (constantI S_ 32 b)

/-- A whole-number constant for every pixel, as a float. -/
def constPxF (b : BitVec 32) : Px F := broadcastInDim S4x1x1024x1024 ![] bcast_S_S4x1x1024x1024 (sitofp .f32 (constantI S_ 32 b))

/-- Grid lines clipped to `[0, hi]` and made whole numbers. -/
def clipPx (hi : BitVec 32) (v : Px F) : IVec S4x1x1024x1024 32 :=
  fptosi 32 (minimumf (constPxF hi) (maximumf (constPxF 0#32) v))

/-- An index from the end counts back from the extent `n`. -/
def wrapPx (n : BitVec 32) (v : IVec S4x1x1024x1024 32) : IVec S4x1x1024x1024 32 :=
  select (cmpi .slt v (constPxI 0#32)) (addi v (constPxI n)) v

/-- One component of the index, with its own axis. -/
def part (n : BitVec 32) (v : IVec S4x1x1024x1024 32) : IVec S4x1x1024x1024x1 32 :=
  broadcastInDim S4x1x1024x1024x1 ![0, 1, 2, 3] bcast_S4x1x1024x1024_S4x1x1024x1024x1_0_1_2_3 (wrapPx n v)

/-- The four-component index of every pixel. -/
def index4 (b z y x : IVec S4x1x1024x1024 32) : IVec S4x1x1024x1024x4 32 :=
  concatenate S4x1x1024x1024x4 4 [⟨S4x1x1024x1024x1, part 4#32 b⟩, ⟨S4x1x1024x1024x1, part 8#32 z⟩,
    ⟨S4x1x1024x1024x1, part 16#32 y⟩, ⟨S4x1x1024x1024x1, part 16#32 x⟩]
    concatenates_S4x1x1024x1024x1_S4x1x1024x1024x1_S4x1x1024x1024x1_S4x1x1024x1024x1_S4x1x1024x1024x4_d4

/-- Is the corner inside the grid? -/
def inside (z y x : Px F) : IVec S4x1x1024x1024 1 :=
  andi (andi (andi (andi (andi (cmpf .oge z (constPx 0x00000000#32)) (cmpf .ole z (constPx 0x40E00000#32)))
    (cmpf .oge y (constPx 0x00000000#32))) (cmpf .ole y (constPx 0x41700000#32)))
    (cmpf .oge x (constPx 0x00000000#32))) (cmpf .ole x (constPx 0x41700000#32))

/-- A weight for every pixel, repeated over the channels. -/
def perChannel (w : Px F) : FVec F S4x1x1024x1024x12 .f32 :=
  broadcastInDim S4x1x1024x1024x12 ![0, 1, 2, 3, 4] bcast_S4x1x1024x1024x1_S4x1x1024x1024x12_0_1_2_3_4
    (broadcastInDim S4x1x1024x1024x1 ![0, 1, 2, 3] bcast_S4x1x1024x1024_S4x1x1024x1024x1_0_1_2_3 w)

/-- One corner: the grid's entry at the lines `z`, `y`, `x`, times the weights, where the corner is inside. -/
def corner (vol : FVec F S4x8x16x16x12 .f32) (b : IVec S4x1x1024x1024 32) (z y x wz wy wx : Px F) : FVec F S4x1x1024x1024x12 .f32 :=
  mulf (Host.gather gather_S4x8x16x16x12_S4x1x1024x1024x4_S4x1x1024x1024x12_4_0123_n_n_0123_4_111112 vol
      (index4 b (clipPx 7#32 z) (clipPx 15#32 y) (clipPx 15#32 x)))
    (perChannel (mulf (mulf (mulf wz wy) wx) (uitofp .f32 (inside z y x))))

/-- The sum of the eight corners, from the lower lines, the distances past them, and the grid. -/
def corners (vol : FVec F S4x8x16x16x12 .f32) (b : IVec S4x1x1024x1024 32) (cz cy cx : Px F) : FVec F S4x1x1024x1024x12 .f32 :=
  let one := constPx 0x3F800000#32
  let z0 := Host.floor cz
  let y0 := Host.floor cy
  let x0 := Host.floor cx
  let z1 := addf z0 one
  let y1 := addf y0 one
  let x1 := addf x0 one
  let uz := subf cz z0
  let uy := subf cy y0
  let ux := subf cx x0
  let vz := subf one uz
  let vy := subf one uy
  let vx := subf one ux
  addf (addf (addf (addf (addf (addf (addf (corner vol b z0 y0 x0 vz vy vx) (corner vol b z0 y0 x1 vz vy ux))
    (corner vol b z0 y1 x0 vz uy vx)) (corner vol b z0 y1 x1 vz uy ux))
    (corner vol b z1 y0 x0 uz vy vx)) (corner vol b z1 y0 x1 uz vy ux))
    (corner vol b z1 y1 x0 uz uy vx)) (corner vol b z1 y1 x1 uz uy ux)

/-- **The reference's value before its last transposition is the sum of the eight corners.** -/
theorem res_eq_corners (V0 : Valuation τ sig (Elt F)) :
    res_main_v525 V0 = corners (res_main_v67 V0) (res_main_v70 V0) (res_main_v48 V0) (res_main_v42 V0) (res_main_v36 V0) := by
  rfl

end Cert.ReferenceIdeal.Slice

end
-- ==== Proof.CornerValue.lean ====
/-
  One corner of the reference at a pixel, in real numbers.
-/
module

public import proofs.«01_k».proof.Proof.Corners
public import proofs.«01_k».proof.Proof.Words

@[expose] public section

set_option maxRecDepth 16384

noncomputable section

namespace Cert.ReferenceIdeal.Slice

open Cert.ReferenceIdeal Cert.ReferenceIdeal.Gen Cert.ReferenceIdeal.Value Idealize.ShloMosaic Idealize.ShloMosaic.TcCoe Idealize.SL.Sem

/-- The gather's dimensions. -/
abbrev gdims := gather_S4x8x16x16x12_S4x1x1024x1024x4_S4x1x1024x1024x12_4_0123_n_n_0123_4_111112

/-- Component `k` of the index for the pixel at row `y` and column `x` of image `b` is read at that pixel. -/
theorem siIdx_eq (b : Fin 4) (y x : Fin 1024) (ch : Fin 12) (k : Fin 4) :
    gdims.siIdx (ix5 b 0 y x ch) k = ix5 b 0 y x k := by
  funext a
  refine Fin.ext ?_
  fin_cases a <;> rfl

/-- The first four axes of the grid are the indexed ones, in order, and the gather takes one entry along each. -/
theorem axis_facts : ∀ (a : Fin 5) (k : Fin 4), (a : ℕ) = k → S4x8x16x16x12.size a ≤ 16 ∧ a ∈ gdims.startIndexMap
    ∧ gdims.startIndexMap.idxOf a = k ∧ gdims.sliceSizes a = 1 ∧ a ∈ gdims.collapsedSliceDims := by decide

/-- The gather's place along one of the four indexed axes: the index's component, when that is inside. -/
theorem gather_place (idx : IVec S4x1x1024x1024x4 32) (b : Fin 4) (y x : Fin 1024) (ch : Fin 12) (a : Fin 5) (k : Fin 4) (hak : (a : ℕ) = k)
    (n : ℕ) (hn : n < S4x8x16x16x12.size a) (hi : idx (ix5 b 0 y x k) = BitVec.ofNat 32 n) :
    gdims.start (ix5 b 0 y x ch) idx a + gdims.batchCoord (ix5 b 0 y x ch) a + gdims.offCoord (ix5 b 0 y x ch) a = n := by
  obtain ⟨h16, hmem, hidx, hs, hc⟩ := axis_facts a k hak
  have hk : (⟨gdims.startIndexMap.idxOf a, List.idxOf_lt_length_iff.2 hmem⟩ : Fin gdims.startIndexMap.length) = k := by
    refine Fin.ext ?_
    show gdims.startIndexMap.idxOf a = k
    exact hidx
  rw [GatherDims.batchCoord_eq_zero _ _ _ List.not_mem_nil,
    GatherDims.offCoord_eq_zero _ _ _ (fun h => ((GatherDims.mem_sKept _ _).mp h).1 hc)]
  unfold GatherDims.start
  rw [dif_pos hmem, hk, siIdx_eq, hi, Slice.toInt_small _ (by omega), hs]
  show min n (S4x8x16x16x12.size a - 1) + 0 + 0 = n
  omega

/-- **The gather at a pixel** whose four index components are inside the grid. -/
theorem gather_apply (vol : FVec Ideal S4x8x16x16x12 .f32) (idx : IVec S4x1x1024x1024x4 32) (b : Fin 4) (y x : Fin 1024) (ch : Fin 12)
    (n0 : Fin 4) (n1 : Fin 8) (n2 n3 : Fin 16)
    (h0 : idx (ix5 b 0 y x 0) = BitVec.ofNat 32 n0) (h1 : idx (ix5 b 0 y x 1) = BitVec.ofNat 32 n1)
    (h2 : idx (ix5 b 0 y x 2) = BitVec.ofNat 32 n2) (h3 : idx (ix5 b 0 y x 3) = BitVec.ofNat 32 n3) :
    Host.gather gdims vol idx (ix5 b 0 y x ch) = vol (ix5 n0 n1 n2 n3 ch) := by
  unfold Host.gather
  congr 1
  funext a
  refine Fin.ext ?_
  show gdims.start (ix5 b 0 y x ch) idx a + gdims.batchCoord (ix5 b 0 y x ch) a + gdims.offCoord (ix5 b 0 y x ch) a = _
  fin_cases a
  · exact gather_place idx b y x ch 0 0 rfl _ n0.isLt h0
  · exact gather_place idx b y x ch 1 1 rfl _ n1.isLt h1
  · exact gather_place idx b y x ch 2 2 rfl _ n2.isLt h2
  · exact gather_place idx b y x ch 3 3 rfl _ n3.isLt h3
  · rw [GatherDims.batchCoord_eq_zero _ _ _ List.not_mem_nil]
    unfold GatherDims.start
    rw [dif_neg (by decide)]
    simp only [Nat.zero_add]
    rfl

/-- A small whole number is not counted from the end. -/
theorem part_apply (n : BitVec 32) (v : IVec S4x1x1024x1024 32) (b : Fin 4) (y x : Fin 1024) (k : ℕ) (hk : k < 2 ^ 31)
    (hv : v (ix4 b 0 y x) = BitVec.ofNat 32 k) : part n v (ix5 b 0 y x 0) = BitVec.ofNat 32 k := by
  pointwise [part, wrapPx, constPxI]
  have h : IntOp.cmpi CmpIPredicate.slt (BitVec.ofNat 32 k) 0#32 = 0#1 := by
    have ht := Slice.toInt_small k hk
    have hneg : ¬ ((k : ℤ) < 0) := by omega
    simp only [IntOp.cmpi, BitVec.slt, ht]
    simp [hneg]
  rw [hv, h]
  rfl

/-- The four components of the index at a pixel. -/
theorem index4_apply (bI z y x : IVec S4x1x1024x1024 32) (b : Fin 4) (r s : Fin 1024) :
    index4 bI z y x (ix5 b 0 r s 0) = part 4#32 bI (ix5 b 0 r s 0) ∧ index4 bI z y x (ix5 b 0 r s 1) = part 8#32 z (ix5 b 0 r s 0)
      ∧ index4 bI z y x (ix5 b 0 r s 2) = part 16#32 y (ix5 b 0 r s 0) ∧ index4 bI z y x (ix5 b 0 r s 3) = part 16#32 x (ix5 b 0 r s 0) := by
  unfold index4
  generalize part 4#32 bI = P
  generalize part 8#32 z = Q
  generalize part 16#32 y = R
  generalize part 16#32 x = S
  refine ⟨?_, ?_, ?_, ?_⟩ <;> pointwise

/-- A grid line, clipped and made a whole number. -/
theorem clipPx_apply (hi : ℕ) (hhi : hi < 2 ^ 31) (v : Px Ideal) (b : Fin 4) (y x : Fin 1024) (n : ℕ) (hv : v (ix4 b 0 y x) = ((n : ℝ) : EReal)) :
    clipPx (BitVec.ofNat 32 hi) v (ix4 b 0 y x) = BitVec.ofNat 32 (min hi n) := by
  pointwise [clipPx, constPxF]
  rw [hv]
  show Ideal.fptosi 32 (min ((((BitVec.ofNat 32 hi).toInt : ℝ)) : EReal) (max (((0#32).toInt : ℝ) : EReal) _)) = _
  have h0 : (((0#32).toInt : ℝ) : EReal) = ((0 : ℝ) : EReal) := by norm_num
  rw [h0, Slice.toInt_small _ hhi, Int.cast_natCast, Slice.clip_nat, Slice.fptosi_nat _ (by omega)]

/-- A comparison of whole numbers, as a bit. -/
theorem bit_le (n k : ℕ) : BitVec.ofBool (decide (((n : ℝ) : EReal) ≤ ((k : ℝ) : EReal))) = if n ≤ k then 1#1 else 0#1 := by
  by_cases h : n ≤ k
  · have : ((n : ℝ) : EReal) ≤ ((k : ℝ) : EReal) := by exact_mod_cast h
    simp [h]
  · have : ¬ ((n : ℝ) : EReal) ≤ ((k : ℝ) : EReal) := by
      intro h'; exact h (by exact_mod_cast h')
    simp [h]

/-- A whole number is not negative, as a bit. -/
theorem bit_nonneg (n : ℕ) : BitVec.ofBool (decide ((0 : EReal) ≤ ((n : ℝ) : EReal))) = 1#1 := by
  have : (0 : EReal) ≤ ((n : ℝ) : EReal) := by exact_mod_cast Nat.zero_le n
  simp

/-- Whether the corner at the whole-number lines `nz`, `ny`, `nx` is inside. -/
theorem inside_apply (z y x : Px Ideal) (b : Fin 4) (r s : Fin 1024) (nz ny nx : ℕ)
    (hz : z (ix4 b 0 r s) = ((nz : ℝ) : EReal)) (hy : y (ix4 b 0 r s) = ((ny : ℝ) : EReal)) (hx : x (ix4 b 0 r s) = ((nx : ℝ) : EReal)) :
    inside z y x (ix4 b 0 r s) = if nz ≤ 7 ∧ ny ≤ 15 ∧ nx ≤ 15 then 1#1 else 0#1 := by
  pointwise [inside, constPx]
  have h7 : Ideal.ofBits .f32 0x40E00000#32 = (((7 : ℕ) : ℝ) : EReal) := by rw [Slice.ofBits_7]; norm_num
  have h15 : Ideal.ofBits .f32 0x41700000#32 = (((15 : ℕ) : ℝ) : EReal) := by rw [Slice.ofBits_15]; norm_num
  rw [hz, hy, hx, h7, h15]
  simp only [bit_le, bit_nonneg]
  by_cases h1 : nz ≤ 7 <;> by_cases h2 : ny ≤ 15 <;> by_cases h3 : nx ≤ 15 <;> simp only [h1, h2, h3, if_true, if_false, and_self, and_true, and_false, true_and, false_and] <;> rfl

/-- The index at which a clipped line lands. -/
def clipIx (N : ℕ) (n : ℕ) : Fin (N + 1) := ⟨min N n, by omega⟩

/-- One corner in real numbers. -/
def cornerR (A : Fin 8 → Fin 16 → Fin 16 → ℝ) (nz ny nx : ℕ) (wz wy wx : ℝ) : ℝ :=
  A (clipIx 7 nz) (clipIx 15 ny) (clipIx 15 nx) * (wz * wy * wx * (if nz ≤ 7 ∧ ny ≤ 15 ∧ nx ≤ 15 then 1 else 0))

/-- **One corner at a pixel.** -/
theorem corner_apply (vol : FVec Ideal S4x8x16x16x12 .f32) (bI : IVec S4x1x1024x1024 32) (z y x wz wy wx : Px Ideal)
    (b : Fin 4) (r s : Fin 1024) (ch : Fin 12) (A : Fin 8 → Fin 16 → Fin 16 → ℝ) (hA : ∀ d k l, vol (ix5 b d k l ch) = (A d k l : EReal))
    (hb : bI (ix4 b 0 r s) = BitVec.ofNat 32 b) (nz ny nx : ℕ) (uz uy ux : ℝ)
    (hz : z (ix4 b 0 r s) = ((nz : ℝ) : EReal)) (hy : y (ix4 b 0 r s) = ((ny : ℝ) : EReal)) (hx : x (ix4 b 0 r s) = ((nx : ℝ) : EReal))
    (hwz : wz (ix4 b 0 r s) = (uz : EReal)) (hwy : wy (ix4 b 0 r s) = (uy : EReal)) (hwx : wx (ix4 b 0 r s) = (ux : EReal)) :
    corner vol bI z y x wz wy wx (ix5 b 0 r s ch) = (cornerR A nz ny nx uz uy ux : EReal) := by
  obtain ⟨i0, i1, i2, i3⟩ := index4_apply bI (clipPx 7#32 z) (clipPx 15#32 y) (clipPx 15#32 x) b r s
  rw [part_apply _ _ b r s b (by omega) hb] at i0
  rw [part_apply _ _ b r s _ (by omega) (clipPx_apply 7 (by norm_num) z b r s nz hz)] at i1
  rw [part_apply _ _ b r s _ (by omega) (clipPx_apply 15 (by norm_num) y b r s ny hy)] at i2
  rw [part_apply _ _ b r s _ (by omega) (clipPx_apply 15 (by norm_num) x b r s nx hx)] at i3
  have hg := gather_apply vol _ b r s ch b (clipIx 7 nz) (clipIx 15 ny) (clipIx 15 nx) i0 i1 i2 i3
  have hi := inside_apply z y x b r s nz ny nx hz hy hx
  have hp : ∀ w : Px Ideal, perChannel w (ix5 b 0 r s ch) = w (ix4 b 0 r s) := by
    intro w; pointwise [perChannel]
  show Host.gather gdims vol _ (ix5 b 0 r s ch) * perChannel _ (ix5 b 0 r s ch) = _
  rw [hg, hp, hA]
  show _ * (wz (ix4 b 0 r s) * wy (ix4 b 0 r s) * wx (ix4 b 0 r s) * (((inside z y x (ix4 b 0 r s)).toNat : ℝ) : EReal)) = _
  rw [hwz, hwy, hwx, hi, cornerR]
  have hm : ((((if nz ≤ 7 ∧ ny ≤ 15 ∧ nx ≤ 15 then 1#1 else 0#1 : BitVec 1)).toNat : ℝ) : EReal)
      = ((if nz ≤ 7 ∧ ny ≤ 15 ∧ nx ≤ 15 then (1 : ℝ) else 0 : ℝ) : EReal) := by
    split <;> simp
  rw [hm]
  simp only [← EReal.coe_mul]

end Cert.ReferenceIdeal.Slice

end
-- ==== Proof.CornerSum.lean ====
/-
  The eight corners of the reference put together at a pixel, in real numbers.
-/
module

public import proofs.«01_k».proof.Proof.CornerValue

@[expose] public section

set_option maxRecDepth 16384

noncomputable section

namespace Cert.ReferenceIdeal.Slice

open Cert.ReferenceIdeal Cert.ReferenceIdeal.Gen Cert.ReferenceIdeal.Value Idealize.ShloMosaic Idealize.ShloMosaic.TcCoe Idealize.SL.Sem

/-- The depth coordinate of a pixel with guidance `g`. -/
def zpos (g : ℝ) : ℝ := (g + 1) * (1 / 2) * 7

/-- The eight corners in real numbers: the lower lines `nz`, `ny`, `nx` and the distances past them. -/
def cornersR (A : Fin 8 → Fin 16 → Fin 16 → ℝ) (nz ny nx : ℕ) (uz uy ux : ℝ) : ℝ :=
  cornerR A nz ny nx (1 - uz) (1 - uy) (1 - ux) + cornerR A nz ny (nx + 1) (1 - uz) (1 - uy) ux
    + cornerR A nz (ny + 1) nx (1 - uz) uy (1 - ux) + cornerR A nz (ny + 1) (nx + 1) (1 - uz) uy ux
    + cornerR A (nz + 1) ny nx uz (1 - uy) (1 - ux) + cornerR A (nz + 1) ny (nx + 1) uz (1 - uy) ux
    + cornerR A (nz + 1) (ny + 1) nx uz uy (1 - ux) + cornerR A (nz + 1) (ny + 1) (nx + 1) uz uy ux

section

variable (v : Px Ideal) (b : Fin 4) (r s : Fin 1024) (p : ℝ) (n : ℕ) (hv : v (ix4 b 0 r s) = (p : EReal)) (hn : ⌊p⌋ = (n : ℤ))

include hv hn in
/-- The lower line of a pixel. -/
theorem floor_apply : Host.floor v (ix4 b 0 r s) = ((n : ℝ) : EReal) := by
  show Ideal.liftRound Int.floor (v (ix4 b 0 r s)) = _
  rw [hv, Ideal.liftRound_coe, hn, Int.cast_natCast]

include hv hn in
/-- The upper line of a pixel. -/
theorem upper_apply : addf (Host.floor v) (constPx 0x3F800000#32) (ix4 b 0 r s) = (((n + 1 : ℕ) : ℝ) : EReal) := by
  have hc : (constPx 0x3F800000#32 : Px Ideal) (ix4 b 0 r s) = ((1 : ℝ) : EReal) := by pointwise [constPx]; norm_num
  show Host.floor v (ix4 b 0 r s) + (constPx 0x3F800000#32 : Px Ideal) (ix4 b 0 r s) = _
  rw [floor_apply v b r s p n hv hn, hc, ← EReal.coe_add, Nat.cast_add, Nat.cast_one]

include hv hn in
/-- The weight of the upper line. -/
theorem past_apply : subf v (Host.floor v) (ix4 b 0 r s) = ((p - n : ℝ) : EReal) := by
  show v (ix4 b 0 r s) - Host.floor v (ix4 b 0 r s) = _
  rw [floor_apply v b r s p n hv hn, hv, ← EReal.coe_sub]

include hv hn in
/-- The weight of the lower line. -/
theorem short_apply : subf (constPx 0x3F800000#32) (subf v (Host.floor v)) (ix4 b 0 r s) = ((1 - (p - n) : ℝ) : EReal) := by
  have hc : (constPx 0x3F800000#32 : Px Ideal) (ix4 b 0 r s) = ((1 : ℝ) : EReal) := by pointwise [constPx]; norm_num
  show (constPx 0x3F800000#32 : Px Ideal) (ix4 b 0 r s) - subf v (Host.floor v) (ix4 b 0 r s) = _
  rw [past_apply v b r s p n hv hn, hc, ← EReal.coe_sub]

end

/-- **The sum of the eight corners at a pixel.** -/
theorem corners_apply (vol : FVec Ideal S4x8x16x16x12 .f32) (bI : IVec S4x1x1024x1024 32) (cz cy cx : Px Ideal)
    (b : Fin 4) (r s : Fin 1024) (ch : Fin 12) (A : Fin 8 → Fin 16 → Fin 16 → ℝ) (hA : ∀ d k l, vol (ix5 b d k l ch) = (A d k l : EReal))
    (hb : bI (ix4 b 0 r s) = BitVec.ofNat 32 b) (pz py px : ℝ) (nz ny nx : ℕ)
    (hz : cz (ix4 b 0 r s) = (pz : EReal)) (hy : cy (ix4 b 0 r s) = (py : EReal)) (hx : cx (ix4 b 0 r s) = (px : EReal))
    (fz : ⌊pz⌋ = (nz : ℤ)) (fy : ⌊py⌋ = (ny : ℤ)) (fx : ⌊px⌋ = (nx : ℤ)) :
    corners vol bI cz cy cx (ix5 b 0 r s ch) = (cornersR A nz ny nx (pz - nz) (py - ny) (px - nx) : EReal) := by
  have z0 := floor_apply cz b r s pz nz hz fz
  have z1 := upper_apply cz b r s pz nz hz fz
  have uz := past_apply cz b r s pz nz hz fz
  have vz := short_apply cz b r s pz nz hz fz
  have y0 := floor_apply cy b r s py ny hy fy
  have y1 := upper_apply cy b r s py ny hy fy
  have uy := past_apply cy b r s py ny hy fy
  have vy := short_apply cy b r s py ny hy fy
  have x0 := floor_apply cx b r s px nx hx fx
  have x1 := upper_apply cx b r s px nx hx fx
  have ux := past_apply cx b r s px nx hx fx
  have vx := short_apply cx b r s px nx hx fx
  unfold corners cornersR
  simp only [EReal.coe_add]
  have add : ∀ {a b : EReal} {x y : EReal}, a = x → b = y → a + b = x + y := fun h h' => by rw [h, h']
  exact (add (add (add (add (add (add (add (corner_apply vol bI _ _ _ _ _ _ b r s ch A hA hb _ _ _ _ _ _ z0 y0 x0 vz vy vx)
      (corner_apply vol bI _ _ _ _ _ _ b r s ch A hA hb _ _ _ _ _ _ z0 y0 x1 vz vy ux))
      (corner_apply vol bI _ _ _ _ _ _ b r s ch A hA hb _ _ _ _ _ _ z0 y1 x0 vz uy vx))
      (corner_apply vol bI _ _ _ _ _ _ b r s ch A hA hb _ _ _ _ _ _ z0 y1 x1 vz uy ux))
      (corner_apply vol bI _ _ _ _ _ _ b r s ch A hA hb _ _ _ _ _ _ z1 y0 x0 uz vy vx))
      (corner_apply vol bI _ _ _ _ _ _ b r s ch A hA hb _ _ _ _ _ _ z1 y0 x1 uz vy ux))
      (corner_apply vol bI _ _ _ _ _ _ b r s ch A hA hb _ _ _ _ _ _ z1 y1 x0 uz uy vx))
      (corner_apply vol bI _ _ _ _ _ _ b r s ch A hA hb _ _ _ _ _ _ z1 y1 x1 uz uy ux))

end Cert.ReferenceIdeal.Slice

end
-- ==== Proof.Equation.lean ====
/-
  The equation of real numbers between the two programs: the kernel's weighted sums over the whole plane of grid lines and
  its hats over the depths give the same number as the reference's eight weighted corners.
-/
module

public import proofs.«01_k».proof.Proof.ArrayValue
public import proofs.«01_k».proof.Proof.CornerSum

@[expose] public section

set_option maxRecDepth 16384

noncomputable section

namespace Cert.Slice

open Cert.KernelIdeal.Slice Cert.ReferenceIdeal.Slice

/-- The lower line of a pixel is one of the 16, and only the last pixel lies on the last. -/
theorem line_le (i : ℕ) (hi : i < 1024) : line i ≤ 14 ∨ (line i = 15 ∧ pos i - (line i : ℝ) = 0) := by
  rcases Nat.lt_or_ge i 1023 with h | h
  · left
    show i * 15 / 1023 ≤ 14
    omega
  · right
    obtain rfl : i = 1023 := by omega
    refine ⟨rfl, ?_⟩
    show pos 1023 - ((15 : ℕ) : ℝ) = 0
    norm_num [pos]

/-- A sum against a weight on one line and a weight on the next. -/
theorem sum_two (a : ℕ) (ha : a + 1 < 16) (p q : ℝ) (f : Fin 16 → ℝ) :
    ∑ k : Fin 16, ((if a = (k : ℕ) then 1 else 0) * p + (if a + 1 = (k : ℕ) then 1 else 0) * q) * f k
      = p * f ⟨a, by omega⟩ + q * f ⟨a + 1, ha⟩ := by
  have one (n : ℕ) (hn : n < 16) (r : ℝ) : ∑ k : Fin 16, (if n = (k : ℕ) then 1 else 0) * r * f k = r * f ⟨n, hn⟩ := by
    rw [Finset.sum_eq_single (⟨n, hn⟩ : Fin 16)]
    · simp
    · intro k _ hk
      rw [if_neg (fun h => hk (Fin.ext h.symm))]
      ring
    · exact fun h => absurd (Finset.mem_univ _) h
  simp only [add_mul, Finset.sum_add_distrib]
  rw [one, one]

/-- Line `n` of the 16, when `n` is below 16. -/
theorem clip_of_lt (n : ℕ) (hn : n < 16) : clipIx 15 n = ⟨n, hn⟩ := by
  refine Fin.ext ?_
  show min 15 n = n
  omega

/-- The kernel's sum over all grid lines is the weighted sum of the two lines round the pixel. -/
theorem wt_sum (i : ℕ) (hi : i < 1024) (f : Fin 16 → ℝ) :
    ∑ k : Fin 16, wt i k * f k
      = (1 - (pos i - line i)) * f (clipIx 15 (line i)) + (pos i - line i) * f (clipIx 15 (line i + 1)) := by
  unfold wt
  rcases line_le i hi with h | ⟨h, hu⟩
  · have hlo : lo i = line i := by unfold lo; omega
    have hfr : fr i = pos i - line i := by unfold fr; rw [hlo]
    rw [hlo, hfr, sum_two _ (by omega), clip_of_lt _ (by omega), clip_of_lt _ (by omega)]
  · have hlo : lo i = 14 := by unfold lo; omega
    have hfr : fr i = 1 := by
      unfold fr
      rw [hlo]
      rw [h] at hu
      push_cast at hu ⊢
      linarith
    rw [hlo, hfr, hu, h, sum_two _ (by omega), clip_of_lt 15 (by omega)]
    show (1 - 1) * f _ + 1 * f ⟨15, _⟩ = (1 - 0) * f ⟨15, _⟩ + 0 * f _
    ring

/-- One plane at a pixel: the kernel's double sum is the weighted sum of four entries. -/
theorem bil_eq (y x : ℕ) (hy : y < 1024) (hx : x < 1024) (A : Fin 16 → Fin 16 → ℝ) :
    bil (wt y) (wt x) A
      = ((1 - (pos y - line y)) * A (clipIx 15 (line y)) (clipIx 15 (line x))
          + (pos y - line y) * A (clipIx 15 (line y + 1)) (clipIx 15 (line x))) * (1 - (pos x - line x))
        + ((1 - (pos y - line y)) * A (clipIx 15 (line y)) (clipIx 15 (line x + 1))
          + (pos y - line y) * A (clipIx 15 (line y + 1)) (clipIx 15 (line x + 1))) * (pos x - line x) := by
  unfold bil
  simp only [wt_sum y hy]
  simp only [mul_comm _ (wt x _)]
  rw [wt_sum x hx]
  ring

/-- A corner whose weight is zero along every axis on which it lies outside needs no mask. -/
theorem corner_unmasked (A : Fin 8 → Fin 16 → Fin 16 → ℝ) (nz ny nx : ℕ) (wz wy wx : ℝ)
    (hz : nz ≤ 7 ∨ wz = 0) (hy : ny ≤ 15 ∨ wy = 0) (hx : nx ≤ 15 ∨ wx = 0) :
    cornerR A nz ny nx wz wy wx = A (clipIx 7 nz) (clipIx 15 ny) (clipIx 15 nx) * (wz * wy * wx) := by
  unfold cornerR
  split_ifs with h
  · rw [mul_one]
  · rcases hz with hz | rfl
    · rcases hy with hy | rfl
      · rcases hx with hx | rfl
        · exact absurd ⟨hz, hy, hx⟩ h
        · simp
      · simp
    · simp

/-- The eight corners are the two planes round the pixel's depth, weighted. -/
theorem corners_eq (A : Fin 8 → Fin 16 → Fin 16 → ℝ) (nz : ℕ) (uz : ℝ) (hz : nz ≤ 6 ∨ (nz = 7 ∧ uz = 0))
    (y x : ℕ) (hy : y < 1024) (hx : x < 1024) :
    cornersR A nz (line y) (line x) uz (pos y - line y) (pos x - line x)
      = (1 - uz) * bil (wt y) (wt x) (A (clipIx 7 nz)) + uz * bil (wt y) (wt x) (A (clipIx 7 (nz + 1))) := by
  have z0 : nz ≤ 7 := by omega
  have z1 : nz + 1 ≤ 7 ∨ uz = 0 := hz.elim (fun h => .inl (by omega)) (fun h => .inr h.2)
  have y0 : line y ≤ 15 := by rcases line_le y hy with h | h <;> omega
  have y1 : line y + 1 ≤ 15 ∨ pos y - (line y : ℝ) = 0 := (line_le y hy).elim (fun h => .inl (by omega)) (fun h => .inr h.2)
  have x0 : line x ≤ 15 := by rcases line_le x hx with h | h <;> omega
  have x1 : line x + 1 ≤ 15 ∨ pos x - (line x : ℝ) = 0 := (line_le x hx).elim (fun h => .inl (by omega)) (fun h => .inr h.2)
  rw [bil_eq y x hy hx, bil_eq y x hy hx]
  unfold cornersR
  rw [corner_unmasked _ _ _ _ _ _ _ (.inl z0) (.inl y0) (.inl x0), corner_unmasked _ _ _ _ _ _ _ (.inl z0) (.inl y0) x1,
    corner_unmasked _ _ _ _ _ _ _ (.inl z0) y1 (.inl x0), corner_unmasked _ _ _ _ _ _ _ (.inl z0) y1 x1,
    corner_unmasked _ _ _ _ _ _ _ z1 (.inl y0) (.inl x0), corner_unmasked _ _ _ _ _ _ _ z1 (.inl y0) x1,
    corner_unmasked _ _ _ _ _ _ _ z1 y1 (.inl x0), corner_unmasked _ _ _ _ _ _ _ z1 y1 x1]
  ring

/-- The hat is zero one or more away. -/
theorem hat_far (n z : ℝ) (h : n + 1 ≤ z ∨ z + 1 ≤ n) : hat n z = 0 := by
  unfold hat
  rw [max_eq_left]
  rcases h with h | h
  · rw [abs_of_nonneg (by linarith)]; linarith
  · rw [abs_of_nonpos (by linarith)]; linarith

/-- The hat's falling side. -/
theorem hat_fall (n z : ℝ) (h : n ≤ z) (h' : z ≤ n + 1) : hat n z = 1 - (z - n) := by
  unfold hat
  rw [abs_of_nonneg (by linarith), max_eq_right (by linarith)]

/-- The hat's rising side. -/
theorem hat_rise (n z : ℝ) (h : z ≤ n) (h' : n ≤ z + 1) : hat n z = 1 - (n - z) := by
  unfold hat
  rw [abs_of_nonpos (by linarith), max_eq_right (by linarith)]
  ring

/-- The depth coordinate of a pixel whose guidance is from -1/7 to 1 has a lower line from 3 to 7, and 7 only at depth 7 itself. -/
theorem depth_line (g : ℝ) (h0 : -1 ≤ g * 7) (h1 : g ≤ 1) :
    ∃ n : ℕ, ⌊zpos g⌋ = (n : ℤ) ∧ (n : ℝ) ≤ zpos g ∧ zpos g ≤ n + 1 ∧ 3 ≤ n ∧ (n ≤ 6 ∨ (n = 7 ∧ zpos g - (n : ℝ) = 0)) := by
  have hz0 : 3 ≤ zpos g := by unfold zpos; linarith
  have hz1 : zpos g ≤ 7 := by unfold zpos; linarith
  have hf0 : 3 ≤ ⌊zpos g⌋ := Int.le_floor.2 (by push_cast; linarith)
  obtain ⟨n, hn⟩ := Int.eq_ofNat_of_zero_le (show 0 ≤ ⌊zpos g⌋ by omega)
  have hl : (n : ℝ) ≤ zpos g := by
    have := Int.floor_le (zpos g)
    rw [hn] at this
    exact_mod_cast this
  have hu : zpos g ≤ n + 1 := by
    have := Int.lt_floor_add_one (zpos g)
    rw [hn] at this
    push_cast at this
    exact this.le
  have h7 : n ≤ 7 := by
    have : (n : ℝ) ≤ 7 := hl.trans hz1
    exact_mod_cast this
  refine ⟨n, hn, hl, hu, by omega, ?_⟩
  rcases Nat.lt_or_ge n 7 with h | h
  · exact .inl (by omega)
  · obtain rfl : n = 7 := by omega
    refine .inr ⟨rfl, ?_⟩
    push_cast at hl ⊢
    linarith

/-- The kernel's hats over depths 3 to 7, with depth 5's own hat spelt as one minus the others, weigh the two depths round `z`. -/
theorem hats_eq (T : Fin 8 → ℝ) (z : ℝ) (n : ℕ) (hl : (n : ℝ) ≤ z) (hu : z ≤ n + 1) (h3 : 3 ≤ n) (h7 : n ≤ 6 ∨ (n = 7 ∧ z - (n : ℝ) = 0)) :
    T 5 + hat 3 z * (T 3 - T 5) + hat 4 z * (T 4 - T 5) + hat 6 z * (T 6 - T 5) + hat 7 z * (T 7 - T 5)
      = (1 - (z - n)) * T (clipIx 7 n) + (z - n) * T (clipIx 7 (n + 1)) := by
  have hn : n = 3 ∨ n = 4 ∨ n = 5 ∨ n = 6 ∨ n = 7 := by omega
  rcases hn with rfl | rfl | rfl | rfl | rfl <;> push_cast at hl hu ⊢
  · rw [hat_fall 3 z (by linarith) (by linarith), hat_rise 4 z (by linarith) (by linarith), hat_far 6 z (.inr (by linarith)),
      hat_far 7 z (.inr (by linarith))]
    show _ = _ * T 3 + _ * T 4
    ring
  · rw [hat_far 3 z (.inl (by linarith)), hat_fall 4 z (by linarith) (by linarith), hat_far 6 z (.inr (by linarith)),
      hat_far 7 z (.inr (by linarith))]
    show _ = _ * T 4 + _ * T 5
    ring
  · rw [hat_far 3 z (.inl (by linarith)), hat_far 4 z (.inl (by linarith)), hat_rise 6 z (by linarith) (by linarith),
      hat_far 7 z (.inr (by linarith))]
    show _ = _ * T 5 + _ * T 6
    ring
  · rw [hat_far 3 z (.inl (by linarith)), hat_far 4 z (.inl (by linarith)), hat_fall 6 z (by linarith) (by linarith),
      hat_rise 7 z (by linarith) (by linarith)]
    show _ = _ * T 6 + _ * T 7
    ring
  · have hz : z = 7 := by
      rcases h7 with h | h
      · omega
      · have h0 := h.2
        push_cast at h0
        linarith
    subst hz
    rw [hat_far 3 7 (.inl (by norm_num)), hat_far 4 7 (.inl (by norm_num)), hat_far 6 7 (.inl (by norm_num)),
      hat_fall 7 7 (by norm_num) (by norm_num)]
    show _ = _ * T 7 + _ * T 7
    ring

/-- The two programs' depth coordinates are the same number. -/
theorem zOf_eq (g : ℝ) : zOf g = zpos g := by
  unfold zOf zpos
  ring

/-- **The equation.** At a pixel whose guidance is from -1/7 to 1 the kernel's number is the reference's eight corners. -/
theorem pixel_eq (A : Fin 8 → Fin 16 → Fin 16 → ℝ) (g : ℝ) (n : ℕ) (hl : (n : ℝ) ≤ zpos g) (hu : zpos g ≤ n + 1) (h3 : 3 ≤ n)
    (h7 : n ≤ 6 ∨ (n = 7 ∧ zpos g - (n : ℝ) = 0)) (y x : ℕ) (hy : y < 1024) (hx : x < 1024) :
    pixel (wt y) (wt x) A g = cornersR A n (line y) (line x) (zpos g - n) (pos y - line y) (pos x - line x) := by
  rw [corners_eq A n _ h7 y x hy hx]
  unfold pixel
  rw [zOf_eq]
  exact hats_eq (fun d => bil (wt y) (wt x) (A d)) (zpos g) n hl hu h3 h7

end Cert.Slice

end
-- ==== Proof.InRange.lean ====
/-
  What the precondition says entry by entry: every entry of the grid is a real number, every guidance value a real number
  from -1/7 to 1.
-/
module

public import proofs.«01_k».proof.Pre_inputs_in_range
public import Idealize.ShloMosaic.Lib.ReduceAll
public import proofs.«01_k».proof.Proof.Words

@[expose] public section

set_option maxRecDepth 16384

noncomputable section

namespace Cert.Pre_inputs_in_range

open Idealize.ShloMosaic

variable [Facts] (A : FVec Ideal S4x12x8x16x16 .f32) (G : FVec Ideal S4x1x1024x1024 .f32)

/-- A scalar has one index. -/
instance : Subsingleton S_.Idx := ⟨fun _ _ => funext fun a => a.elim0⟩

/-- A bit made of a truth value is 1 when the value is true. -/
theorem ofBool_eq_one (b : Bool) (h : BitVec.ofBool b = 1#1) : b = true := by
  cases b
  · exact absurd h (by decide)
  · rfl

/-- The three conditions, entry by entry, in the words of the comparisons. -/
theorem entries (h : fn (F := Ideal) A G = fun _ => 1#1) :
    (∀ i, Ideal.cmp .olt (max (A i) (-A i)) (Ideal.ofBits .f32 0x7F800000#32) = 1#1)
      ∧ (∀ i, Ideal.cmp .oge (G i * Ideal.ofBits .f32 0x40E00000#32) (Ideal.ofBits .f32 0xBF800000#32) = 1#1)
      ∧ ∀ i, Ideal.cmp .ole (G i) (Ideal.ofBits .f32 0x3F800000#32) = 1#1 := by
  have e := congrFun h (fun a => a.elim0)
  obtain ⟨e12, e3⟩ := IntOp.andi_eq_one.1 e
  obtain ⟨e1, e2⟩ := IntOp.andi_eq_one.1 e12
  exact ⟨fun i => Host.reduce_andi_all _ _ _ _ _ e1 i, fun i => Host.reduce_andi_all _ _ _ _ _ e2 i,
    fun i => Host.reduce_andi_all _ _ _ _ _ e3 i⟩

/-- The word 0x7F800000 spells plus infinity. -/
theorem ofBits_inf : Ideal.ofBits .f32 0x7F800000#32 = ⊤ := by
  simp [Ideal.ofBits, Ideal.ieee]

/-- The word 0xBF800000 spells minus one. -/
theorem ofBits_neg_one : Ideal.ofBits .f32 0xBF800000#32 = ((-1 : ℝ) : EReal) := by
  simp [Ideal.ofBits, Ideal.ieee, -EReal.coe_mul, -EReal.coe_neg]; norm_num

/-- The word 0x3F800000 spells one. -/
theorem ofBits_one : Ideal.ofBits .f32 0x3F800000#32 = ((1 : ℝ) : EReal) := by
  simp [Ideal.ofBits, Ideal.ieee, -EReal.coe_mul]; norm_num

/-- Under the precondition every entry of the grid is a real number. -/
theorem grid_real (h : fn (F := Ideal) A G = fun _ => 1#1) (i : S4x12x8x16x16.Idx) : A i = ((EReal.toReal (A i) : ℝ) : EReal) := by
  have e := of_decide_eq_true (ofBool_eq_one _ ((entries A G h).1 i))
  rw [ofBits_inf] at e
  obtain ⟨e1, e2⟩ := max_lt_iff.1 e
  refine (EReal.coe_toReal (ne_of_lt e1) ?_).symm
  intro hb
  rw [hb] at e2
  exact absurd e2 (by simp)

/-- Under the precondition every guidance value is a real number from -1/7 to 1. -/
theorem guide_real (h : fn (F := Ideal) A G = fun _ => 1#1) (i : S4x1x1024x1024.Idx) :
    G i = ((EReal.toReal (G i) : ℝ) : EReal) ∧ -1 ≤ EReal.toReal (G i) * 7 ∧ EReal.toReal (G i) ≤ 1 := by
  have e0 := of_decide_eq_true (ofBool_eq_one _ ((entries A G h).2.1 i))
  have e1 := of_decide_eq_true (ofBool_eq_one _ ((entries A G h).2.2 i))
  rw [ofBits_neg_one, Slice.ofBits_7] at e0
  rw [ofBits_one] at e1
  have hr : G i = ((EReal.toReal (G i) : ℝ) : EReal) := by
    refine (EReal.coe_toReal (fun ht => ?_) (fun hb => ?_)).symm
    · rw [ht] at e1
      exact absurd e1 (not_le.2 (EReal.coe_lt_top 1))
    · rw [hb, EReal.bot_mul_coe_of_pos (by norm_num)] at e0
      exact absurd e0 (not_le.2 (EReal.bot_lt_coe _))
  rw [hr] at e0 e1
  rw [← EReal.coe_mul] at e0
  exact ⟨hr, EReal.coe_le_coe_iff.1 e0, EReal.coe_le_coe_iff.1 e1⟩

end Cert.Pre_inputs_in_range

end
-- ==== Proof.ReferenceValue.lean ====
/-
  The reference's whole result in real numbers, when the grid and the guidance hold real numbers.
-/
module

public import proofs.«01_k».proof.Proof.CornerSum

@[expose] public section

set_option maxRecDepth 16384

noncomputable section

namespace Cert.ReferenceIdeal.Slice

open Cert.ReferenceIdeal Cert.ReferenceIdeal.Gen Cert.ReferenceIdeal.Value Idealize.ShloMosaic Idealize.ShloMosaic.TcCoe Idealize.SL.Sem

section

variable (V0 : Valuation τ sig (Elt Ideal)) (b : Fin 4) (r s : Fin 1024)

/-- The image that a pixel belongs to. -/
theorem batch_apply : (res_main_v70 V0 : IVec S4x1x1024x1024 32) (ix4 b 0 r s) = BitVec.ofNat 32 b := by
  unfold res_main_v70
  pointwise

/-- The grid with its channels last. -/
theorem vol_apply (d : Fin 8) (k l : Fin 16) (ch : Fin 12) : (res_main_v67 V0 : FVec Ideal S4x8x16x16x12 .f32) (ix5 b d k l ch) =
    (V0 (Proc.devRef .tc main_arg0) : FVec Ideal S4x12x8x16x16 .f32) (ix5 b ch d k l) := by
  unfold res_main_v67
  pointwise

/-- From a pixel's number to its coordinate through the range from -1 to 1. -/
theorem unit_range (i : ℕ) (hi : i < 1024) :
    (Ideal.div (((BitVec.ofNat 32 i).toInt : ℝ) : EReal) (Ideal.ofBits .f32 0x447FC000#32) * Ideal.ofBits .f32 0x40000000#32 - 1 + 1)
      * Ideal.ofBits .f32 0x3F000000#32 * Ideal.ofBits .f32 0x41700000#32 = (Slice.pos i : EReal) := by
  have h1 : (1 : EReal) = ((1 : ℝ) : EReal) := by norm_num
  rw [Slice.toInt_small _ (by omega), Slice.ofBits_1023, Slice.ofBits_2, Slice.ofBits_half, Slice.ofBits_15,
    Slice.div_real _ _ (by norm_num), h1]
  simp only [← EReal.coe_mul, ← EReal.coe_sub, ← EReal.coe_add]
  congr 1
  unfold Slice.pos
  push_cast
  ring

/-- The column coordinate. -/
theorem x_apply : (res_main_v36 V0 : Px Ideal) (ix4 b 0 r s) = (Slice.pos s : EReal) := by
  unfold res_main_v36 res_main_v24
  pointwise
  exact unit_range s s.isLt

/-- The row coordinate. -/
theorem y_apply : (res_main_v42 V0 : Px Ideal) (ix4 b 0 r s) = (Slice.pos r : EReal) := by
  unfold res_main_v42 res_main_v24
  pointwise
  exact unit_range r r.isLt

/-- The depth coordinate. -/
theorem z_apply (g : ℝ) (hg : (V0 (Proc.devRef .tc main_arg1) : FVec Ideal S4x1x1024x1024 .f32) (ix4 b 0 r s) = (g : EReal)) :
    (res_main_v48 V0 : Px Ideal) (ix4 b 0 r s) = (zpos g : EReal) := by
  unfold res_main_v48 res_main_v24
  pointwise
  have h1 : (1 : EReal) = ((1 : ℝ) : EReal) := by norm_num
  rw [hg, Slice.ofBits_half, Slice.ofBits_7, h1]
  simp only [← EReal.coe_mul, ← EReal.coe_add]
  rfl

/-- **The reference's result at a pixel.** -/
theorem result_apply (ch : Fin 12) (A : Fin 8 → Fin 16 → Fin 16 → ℝ)
    (hA : ∀ d k l, (V0 (Proc.devRef .tc main_arg0) : FVec Ideal S4x12x8x16x16 .f32) (ix5 b ch d k l) = (A d k l : EReal))
    (g : ℝ) (hg : (V0 (Proc.devRef .tc main_arg1) : FVec Ideal S4x1x1024x1024 .f32) (ix4 b 0 r s) = (g : EReal))
    (nz : ℕ) (fz : ⌊zpos g⌋ = (nz : ℤ)) :
    (shapeCast S4x12x1024x1024 (transpose S4x12x1x1024x1024 [0, 4, 1, 2, 3] (res_main_v525 V0) transposes_S4x1x1024x1024x12_S4x12x1x1024x1024_0_4_1_2_3)
      shapeCasts_S4x12x1x1024x1024_S4x12x1024x1024 : FVec Ideal S4x12x1024x1024 .f32) (ix4 b ch r s)
      = (cornersR A nz (Slice.line r) (Slice.line s) (zpos g - nz) (Slice.pos r - Slice.line r) (Slice.pos s - Slice.line s) : EReal) := by
  refine Eq.trans (b := (res_main_v525 V0 : FVec Ideal S4x1x1024x1024x12 .f32) (ix5 b 0 r s ch)) ?_ ?_
  · generalize res_main_v525 V0 = X
    pointwise
  · rw [res_eq_corners]
    exact corners_apply _ _ _ _ _ b r s ch A (fun d k l => (vol_apply V0 b d k l ch).trans (hA d k l)) (batch_apply V0 b r s) _ _ _ _ _ _
      (z_apply V0 b r s g hg) (y_apply V0 b r s) (x_apply V0 b r s) fz (Slice.floor_pos r) (Slice.floor_pos s)

end

end Cert.ReferenceIdeal.Slice

end
-- ==== Proof.lean ====
module

public import proofs.«01_k».proof.Proof.Gen.KernelIdeal.Value
public import proofs.«01_k».proof.Proof.Gen.ReferenceIdeal.Run
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_inputs_in_range
public import proofs.«01_k».proof.Proof.Equation
public import proofs.«01_k».proof.Proof.InRange
public import proofs.«01_k».proof.Proof.ReferenceValue
public import Idealize.ShloMosaic.Adequacy
public import Idealize.ShloMosaic.Init

@[expose] public section

noncomputable section

namespace Cert.Proof

open Idealize.ShloMosaic Idealize.SL.Sem Cert.Kernel

/-- The kernel as written runs, keeps its arguments and ends quiescent. -/
theorem frame_kernel : Cert.quiescent_Kernel := fun m ρ _ => Cert.Kernel.Gen.frame m ρ

/-- The kernel over the reals runs, keeps its arguments and ends quiescent. -/
theorem frame_ideal : Cert.quiescent_KernelIdeal := fun m ρ _ => Cert.KernelIdeal.Gen.frame m ρ

/-- The same under the precondition. -/
theorem frame_ideal_pre : Cert.quiescent_KernelIdeal_pre_inputs_in_range := fun m ρ _ => Cert.KernelIdeal.Gen.frame m ρ

/-- The reference runs, keeps its arguments and ends quiescent. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The same under the precondition. -/
theorem frame_reference_pre : Cert.quiescent_ReferenceIdeal_pre_inputs_in_range := fun m ρ _ => frame_reference m ρ trivial

/-- The kernel over the reals is the kernel's own text: nothing was rewritten. -/
theorem preserves : Cert.preserves_Kernel_KernelIdeal := trivial

/-- **The value claim.** From arguments that agree and meet the precondition the kernel and the reference end with the same
    result array: entry by entry both hold the same real number. -/
theorem algebraic : Cert.algebraic_KernelIdeal_ReferenceIdeal_pre_inputs_in_range := by
  intro m ρ m' ρ' hpre hagree
  refine ⟨fun c => (Cert.KernelIdeal.Gen.dats m 0 c).arrAt 4 Cert.KernelIdeal.cfg0.N, Cert.KernelIdeal.Value.run_blocks (F := Ideal) m ρ, ?_⟩
  refine (θ_run Cert.ReferenceIdeal.defs _ _).mono (fun _ h c => ⟨(h c).1.trans ?_, (h c).2⟩) (Cert.ReferenceIdeal.Value.run (F := Ideal) m' ρ')
  have hA := Cert.Pre_inputs_in_range.grid_real _ _ (hpre c)
  have hG := Cert.Pre_inputs_in_range.guide_real _ _ (hpre c)
  obtain ⟨a0, a1⟩ := hagree c
  refine Eq.trans ?_ (Cert.KernelIdeal.Slice.array_real m c
    (fun b ch d k l => EReal.toReal ((m ((c.tc : Thread Cert.KernelIdeal.nD Cert.KernelIdeal.τ).loc Cert.KernelIdeal.main_arg0) : FVec Ideal Cert.KernelIdeal.S4x12x8x16x16 .f32) (ix5 b ch d k l)))
    (fun b ch d k l => hA _)
    (fun b y x => EReal.toReal ((m ((c.tc : Thread Cert.KernelIdeal.nD Cert.KernelIdeal.τ).loc Cert.KernelIdeal.main_arg1) : FVec Ideal Cert.KernelIdeal.S4x1x1024x1024 .f32) (ix4 b 0 y x)))
    (fun b y x => (hG _).1)).symm
  funext j
  obtain ⟨b, ch, y, x, rfl⟩ : ∃ (b : Fin 4) (ch : Fin 12) (y x : Fin 1024), j = ix4 b ch y x := ⟨j 0, j 1, j 2, j 3, eq_ix4 j⟩
  obtain ⟨hr, h0, h1⟩ := hG (ix4 b 0 y x)
  obtain ⟨n, hn, hl, hu, h3, h7⟩ := Cert.Slice.depth_line _ h0 h1
  refine (Cert.ReferenceIdeal.Slice.result_apply (StableHlo.launchContents m' c) b y x ch
    (fun d k l => EReal.toReal ((m ((c.tc : Thread Cert.KernelIdeal.nD Cert.KernelIdeal.τ).loc Cert.KernelIdeal.main_arg0) : FVec Ideal Cert.KernelIdeal.S4x12x8x16x16 .f32) (ix5 b ch d k l)))
    (fun d k l => (congrFun a0 _).trans (hA _)) _ ((congrFun a1 _).trans hr) n hn).trans ?_
  exact congrArg (fun r : ℝ => (r : EReal)) (Cert.Slice.pixel_eq _ _ n hl hu h3 h7 y x y.isLt x.isLt).symm

/-- The certificate's whole claim. -/
theorem claim : Cert.Claim := ⟨Cert.Kernel.Gen.facts, Cert.KernelIdeal.Gen.facts, Cert.ReferenceIdeal.Gen.facts, Cert.Pre_inputs_in_range.Gen.facts,
  frame_kernel, frame_ideal, frame_ideal_pre, frame_reference, frame_reference_pre, preserves, algebraic⟩

end Cert.Proof

end
